-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_forget_base_below_inf [hPre_forget_base_below_inf : Cert.Pre_forget_base_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_forget_base_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_forget_base_below_inf [hPre_forget_base_below_inf : Cert.Pre_forget_base_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_forget_base_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_forget_base_below_inf [hKernelIdeal : Cert.KernelIdeal.Facts] [hPre_forget_base_below_inf : Cert.Pre_forget_base_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_forget_base_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_forget_base_below_inf [hReferenceIdeal : Cert.ReferenceIdeal.Facts] [hPre_forget_base_below_inf : Cert.Pre_forget_base_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_forget_base_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_forget_base_below_inf [hKernelIdeal : Cert.KernelIdeal.Facts] [hReferenceIdeal : Cert.ReferenceIdeal.Facts] [hPre_forget_base_below_inf : Cert.Pre_forget_base_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_forget_base_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_forget_base_below_inf : Cert.Pre_forget_base_below_inf.Facts),
    quiescent_Kernel (hKernel := hKernel)
    ∧ quiescent_KernelIdeal (hKernelIdeal := hKernelIdeal)
    ∧ quiescent_KernelIdeal_pre_forget_base_below_inf (hKernelIdeal := hKernelIdeal) (hPre_forget_base_below_inf := hPre_forget_base_below_inf)
    ∧ quiescent_ReferenceIdeal (hReferenceIdeal := hReferenceIdeal)
    ∧ quiescent_ReferenceIdeal_pre_forget_base_below_inf (hReferenceIdeal := hReferenceIdeal) (hPre_forget_base_below_inf := hPre_forget_base_below_inf)
    ∧ preserves_Kernel_KernelIdeal
    ∧ algebraic_KernelIdeal_ReferenceIdeal_pre_forget_base_below_inf (hKernelIdeal := hKernelIdeal) (hReferenceIdeal := hReferenceIdeal) (hPre_forget_base_below_inf := hPre_forget_base_below_inf)
-- ==== Pre_forget_base_below_inf.lean ====
abbrev S4x2048x1024 : Shape := ⟨3, ![4, 2048, 1024]⟩
abbrev S1024 : Shape := ⟨1, ![1024]⟩
abbrev S3072x1024 : Shape := ⟨2, ![3072, 1024]⟩
abbrev S1536x1x4 : Shape := ⟨3, ![1536, 1, 4]⟩
abbrev S1536 : Shape := ⟨1, ![1536]⟩
abbrev S3072x1536 : Shape := ⟨2, ![3072, 1536]⟩
abbrev S3072 : Shape := ⟨1, ![3072]⟩
abbrev S1024x1536 : Shape := ⟨2, ![1024, 1536]⟩
abbrev S4096x1024 : Shape := ⟨2, ![4096, 1024]⟩
abbrev S1024x2048 : Shape := ⟨2, ![1024, 2048]⟩
abbrev S_ : Shape := ⟨0, ![]⟩

class Facts : Prop where
  bcast_S_S1536 : S_.BroadcastsInDim S1536 (![] : Fin 0 → Fin S1536.rank)
  reducesTo_S1536_S_d0 : S1536.ReducesTo [0] S_
  h_S_ : 0 < S_.numel

variable [Facts]

def fn {F : FTy → Type} [FloatOps F] (main_arg0 : FVec F S4x2048x1024 .f32) (main_arg1 : FVec F S1024 .f32) (main_arg2 : FVec F S3072x1024 .f32) (main_arg3 : FVec F S1536x1x4 .f32) (main_arg4 : FVec F S1536 .f32) (main_arg5 : FVec F S3072x1536 .f32) (main_arg6 : FVec F S3072 .f32) (main_arg7 : FVec F S1536 .f32) (main_arg8 : FVec F S1024x1536 .f32) (main_arg9 : FVec F S1024 .f32) (main_arg10 : FVec F S4096x1024 .f32) (main_arg11 : FVec F S1024x2048 .f32) : IVec S_ 1 :=
  let main_cst : FVec F S_ .f32 := constant S_ .f32 0x7F800000#32
  let main_v0 : FVec F S1536 .f32 := broadcastInDim S1536 ![] bcast_S_S1536 main_cst
  let main_v1 : IVec S1536 1 := cmpf .olt main_arg7 main_v0
  let main_c : IVec S_ 1 := constantI S_ 1 1#1
  let main_v2 : IVec S_ 1 := (fun x v => Host.reduce IntOp.andi x v reducesTo_S1536_S_d0 h_S_) main_v1 main_c
  main_v2
-- ==== Kernel.lean ====
abbrev S4x2048x1024 : Shape := ⟨3, ![4, 2048, 1024]⟩
abbrev S1024 : Shape := ⟨1, ![1024]⟩
abbrev S3072x1024 : Shape := ⟨2, ![3072, 1024]⟩
abbrev S1536x1x4 : Shape := ⟨3, ![1536, 1, 4]⟩
abbrev S1536 : Shape := ⟨1, ![1536]⟩
abbrev S3072x1536 : Shape := ⟨2, ![3072, 1536]⟩
abbrev S3072 : Shape := ⟨1, ![3072]⟩
abbrev S1024x1536 : Shape := ⟨2, ![1024, 1536]⟩
abbrev S4096x1024 : Shape := ⟨2, ![4096, 1024]⟩
abbrev S1024x2048 : Shape := ⟨2, ![1024, 2048]⟩
abbrev S1024x3072 : Shape := ⟨2, ![1024, 3072]⟩
abbrev S1536x3072 : Shape := ⟨2, ![1536, 3072]⟩
abbrev S1536x1024 : Shape := ⟨2, ![1536, 1024]⟩
abbrev S1024x4096 : Shape := ⟨2, ![1024, 4096]⟩
abbrev S2048x1024 : Shape := ⟨2, ![2048, 1024]⟩
abbrev S1536x4 : Shape := ⟨2, ![1536, 4]⟩
abbrev S4x1536 : Shape := ⟨2, ![4, 1536]⟩
abbrev S_ : Shape := ⟨0, ![]⟩
abbrev S8x1536 : Shape := ⟨2, ![8, 1536]⟩
abbrev S1x1536 : Shape := ⟨2, ![1, 1536]⟩
abbrev S1x3072 : Shape := ⟨2, ![1, 3072]⟩
abbrev S1x1024 : Shape := ⟨2, ![1, 1024]⟩
abbrev S32x256x1024 : Shape := ⟨3, ![32, 256, 1024]⟩
abbrev S2x256x1024 : Shape := ⟨3, ![2, 256, 1024]⟩
abbrev S2x8x1536 : Shape := ⟨3, ![2, 8, 1536]⟩
abbrev S256x256 : Shape := ⟨2, ![256, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x1536 : Shape := ⟨2, ![256, 1536]⟩
abbrev S1x8x1536 : Shape := ⟨3, ![1, 8, 1536]⟩
abbrev S3x1536 : Shape := ⟨2, ![3, 1536]⟩
abbrev S7x1536 : Shape := ⟨2, ![7, 1536]⟩
abbrev S2x1536 : Shape := ⟨2, ![2, 1536]⟩
abbrev S6x1536 : Shape := ⟨2, ![6, 1536]⟩
abbrev S5x1536 : Shape := ⟨2, ![5, 1536]⟩
abbrev S248x1536 : Shape := ⟨2, ![248, 1536]⟩
abbrev S256x4096 : Shape := ⟨2, ![256, 4096]⟩
abbrev S256x2048 : Shape := ⟨2, ![256, 2048]⟩

abbrev nBuf : Space → Nat
  | .hbm => 36
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S3072x1024, .f32⟩
  | .hbm, ⟨3, _⟩ => ⟨S1536x1x4, .f32⟩
  | .hbm, ⟨4, _⟩ => ⟨S1536, .f32⟩
  | .hbm, ⟨5, _⟩ => ⟨S3072x1536, .f32⟩
  | .hbm, ⟨6, _⟩ => ⟨S3072, .f32⟩
  | .hbm, ⟨7, _⟩ => ⟨S1536, .f32⟩
  | .hbm, ⟨8, _⟩ => ⟨S1024x1536, .f32⟩
  | .hbm, ⟨9, _⟩ => ⟨S1024, .f32⟩
  | .hbm, ⟨10, _⟩ => ⟨S4096x1024, .f32⟩
  | .hbm, ⟨11, _⟩ => ⟨S1024x2048, .f32⟩
  | .hbm, ⟨12, _⟩ => ⟨S1024x3072, .f32⟩
  | .hbm, ⟨13, _⟩ => ⟨S1024x3072, .bf16⟩
  | .hbm, ⟨14, _⟩ => ⟨S1536x3072, .f32⟩
  | .hbm, ⟨15, _⟩ => ⟨S1536x3072, .bf16⟩
  | .hbm, ⟨16, _⟩ => ⟨S1536x1024, .f32⟩
  | .hbm, ⟨17, _⟩ => ⟨S1536x1024, .bf16⟩
  | .hbm, ⟨18, _⟩ => ⟨S1024x4096, .f32⟩
  | .hbm, ⟨19, _⟩ => ⟨S1024x4096, .bf16⟩
  | .hbm, ⟨20, _⟩ => ⟨S2048x1024, .f32⟩
  | .hbm, ⟨21, _⟩ => ⟨S2048x1024, .bf16⟩
  | .hbm, ⟨22, _⟩ => ⟨S1536x4, .f32⟩
  | .hbm, ⟨23, _⟩ => ⟨S4x1536, .f32⟩
  | .hbm, ⟨24, _⟩ => ⟨S_, .i32⟩
  | .hbm, ⟨25, _⟩ => ⟨S_, .f32⟩
  | .hbm, ⟨26, _⟩ => ⟨S8x1536, .f32⟩
  | .hbm, ⟨27, _⟩ => ⟨S1x1536, .f32⟩
  | .hbm, ⟨28, _⟩ => ⟨S1x3072, .f32⟩
  | .hbm, ⟨29, _⟩ => ⟨S1x1536, .f32⟩
  | .hbm, ⟨30, _⟩ => ⟨S1x1024, .f32⟩
  | .hbm, ⟨31, _⟩ => ⟨S1x1024, .f32⟩
  | .hbm, ⟨32, _⟩ => ⟨S4x2048x1024, .f32⟩
  | .hbm, ⟨33, _⟩ => ⟨S32x256x1024, .f32⟩
  | .hbm, ⟨34, _⟩ => ⟨S32x256x1024, .f32⟩
  | .hbm, ⟨35, _⟩ => ⟨S4x2048x1024, .f32⟩
  | .local _ .vmem, ⟨0, _⟩ => ⟨S2x256x1024, .f32⟩
  | .local _ .vmem, ⟨1, _⟩ => ⟨S2x256x1024, .f32⟩
  | .local _ .vmem, ⟨2, _⟩ => ⟨S1x1024, .f32⟩
  | .local _ .vmem, ⟨3, _⟩ => ⟨S1024x3072, .bf16⟩
  | .local _ .vmem, ⟨4, _⟩ => ⟨S8x1536, .f32⟩
  | .local _ .vmem, ⟨5, _⟩ => ⟨S1x1536, .f32⟩
  | .local _ .vmem, ⟨6, _⟩ => ⟨S1536x3072, .bf16⟩
  | .local _ .vmem, ⟨7, _⟩ => ⟨S1x3072, .f32⟩
  | .local _ .vmem, ⟨8, _⟩ => ⟨S1x1536, .f32⟩
  | .local _ .vmem, ⟨9, _⟩ => ⟨S1536x1024, .bf16⟩
  | .local _ .vmem, ⟨10, _⟩ => ⟨S2x256x1024, .f32⟩
  | .local _ .vmem, ⟨11, _⟩ => ⟨S2x256x1024, .f32⟩
  | .local _ .vmem, ⟨12, _⟩ => ⟨S2x8x1536, .f32⟩
  | .local _ .vmem, ⟨13, _⟩ => ⟨S2x8x1536, .f32⟩
  | .local _ .vmem, ⟨14, _⟩ => ⟨S2x256x1024, .f32⟩
  | .local _ .vmem, ⟨15, _⟩ => ⟨S2x256x1024, .f32⟩
  | .local _ .vmem, ⟨16, _⟩ => ⟨S1x1024, .f32⟩
  | .local _ .vmem, ⟨17, _⟩ => ⟨S1024x4096, .bf16⟩
  | .local _ .vmem, ⟨18, _⟩ => ⟨S2048x1024, .bf16⟩
  | .local _ .vmem, ⟨19, _⟩ => ⟨S2x256x1024, .f32⟩
  | .local _ .vmem, ⟨20, _⟩ => ⟨S2x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c : Ref sig .tc := ⟨.hbm, 24, rfl⟩
abbrev main_call0_call0_v0 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4x2048x1024 : Shape := ⟨3, ![4, 2048, 1024]⟩
abbrev S1024 : Shape := ⟨1, ![1024]⟩
abbrev S3072x1024 : Shape := ⟨2, ![3072, 1024]⟩
abbrev S1536x1x4 : Shape := ⟨3, ![1536, 1, 4]⟩
abbrev S1536 : Shape := ⟨1, ![1536]⟩
abbrev S3072x1536 : Shape := ⟨2, ![3072, 1536]⟩
abbrev S3072 : Shape := ⟨1, ![3072]⟩
abbrev S1024x1536 : Shape := ⟨2, ![1024, 1536]⟩
abbrev S4096x1024 : Shape := ⟨2, ![4096, 1024]⟩
abbrev S1024x2048 : Shape := ⟨2, ![1024, 2048]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3072 : Shape := ⟨3, ![4, 2048, 3072]⟩
abbrev S4x2048x1536 : Shape := ⟨3, ![4, 2048, 1536]⟩
abbrev S4x2051x1536 : Shape := ⟨3, ![4, 2051, 1536]⟩
abbrev S1536x1x1 : Shape := ⟨3, ![1536, 1, 1]⟩
abbrev S1x1x1536 : Shape := ⟨3, ![1, 1, 1536]⟩
abbrev S1x1x3072 : Shape := ⟨3, ![1, 1, 3072]⟩
abbrev S4x1536 : Shape := ⟨2, ![4, 1536]⟩
abbrev S2048x4x1536 : Shape := ⟨3, ![2048, 4, 1536]⟩
abbrev S1x4x1536 : Shape := ⟨3, ![1, 4, 1536]⟩
abbrev S4x2048x4096 : Shape := ⟨3, ![4, 2048, 4096]⟩
abbrev S4x2048x2048 : Shape := ⟨3, ![4, 2048, 2048]⟩

abbrev nBuf : Space → Nat
  | .hbm => 196
  | .vmem => 0
  | .smem => 0
  | _ => 0

abbrev hbmTy0_0 (i : Nat) : BufTy := match i % 128 with
  | 0 => ⟨S4x2048x1024, .f32⟩
  | 1 => ⟨S1024, .f32⟩
  | 2 => ⟨S3072x1024, .f32⟩
  | 3 => ⟨S1536x1x4, .f32⟩
  | 4 => ⟨S1536, .f32⟩
  | 5 => ⟨S3072x1536, .f32⟩
  | 6 => ⟨S3072, .f32⟩
  | 7 => ⟨S1536, .f32⟩
  | 8 => ⟨S1024x1536, .f32⟩
  | 9 => ⟨S1024, .f32⟩
  | 10 => ⟨S4096x1024, .f32⟩
  | 11 => ⟨S1024x2048, .f32⟩
  | 12 => ⟨S4x2048x1024, .f32⟩
  | 13 => ⟨S_, .f32⟩
  | 14 => ⟨S4x2048, .f32⟩
  | 15 => ⟨S4x2048x1, .f32⟩
  | 16 => ⟨S4x2048x1, .f32⟩
  | 17 => ⟨S_, .f32⟩
  | 18 => ⟨S_, .f32⟩
  | 19 => ⟨S1024, .f32⟩
  | 20 => ⟨S1024, .f32⟩
  | 21 => ⟨S_, .f32⟩
  | 22 => ⟨S4x2048x1, .f32⟩
  | 23 => ⟨S4x2048x1, .f32⟩
  | 24 => ⟨S4x2048x1024, .f32⟩
  | 25 => ⟨S4x2048x1024, .f32⟩
  | 26 => ⟨S1x1x1024, .f32⟩
  | 27 => ⟨S4x2048x1024, .f32⟩
  | 28 => ⟨S4x2048x1024, .f32⟩
  | 29 => ⟨S4x2048x3072, .f32⟩
  | 30 => ⟨S4x2048x1536, .f32⟩
  | 31 => ⟨S4x2048x1536, .f32⟩
  | 32 => ⟨S_, .i32⟩
  | 33 => ⟨S_, .f32⟩
  | 34 => ⟨S4x2051x1536, .f32⟩
  | 35 => ⟨S4x2048x1536, .f32⟩
  | 36 => ⟨S1536x1x1, .f32⟩
  | 37 => ⟨S1536, .f32⟩
  | 38 => ⟨S1x1x1536, .f32⟩
  | 39 => ⟨S4x2048x1536, .f32⟩
  | 40 => ⟨S4x2048x1536, .f32⟩
  | 41 => ⟨S_, .f32⟩
  | 42 => ⟨S4x2048x1536, .f32⟩
  | 43 => ⟨S4x2048x1536, .f32⟩
  | 44 => ⟨S4x2048x1536, .f32⟩
  | 45 => ⟨S1536x1x1, .f32⟩
  | 46 => ⟨S1536, .f32⟩
  | 47 => ⟨S1x1x1536, .f32⟩
  | 48 => ⟨S4x2048x1536, .f32⟩
  | 49 => ⟨S4x2048x1536, .f32⟩
  | 50 => ⟨S4x2048x1536, .f32⟩
  | 51 => ⟨S4x2048x1536, .f32⟩
  | 52 => ⟨S1536x1x1, .f32⟩
  | 53 => ⟨S1536, .f32⟩
  | 54 => ⟨S1x1x1536, .f32⟩
  | 55 => ⟨S4x2048x1536, .f32⟩
  | 56 => ⟨S4x2048x1536, .f32⟩
  | 57 => ⟨S4x2048x1536, .f32⟩
  | 58 => ⟨S4x2048x1536, .f32⟩
  | 59 => ⟨S1536x1x1, .f32⟩
  | 60 => ⟨S1536, .f32⟩
  | 61 => ⟨S1x1x1536, .f32⟩
  | 62 => ⟨S4x2048x1536, .f32⟩
  | 63 => ⟨S4x2048x1536, .f32⟩
  | 64 => ⟨S4x2048x1536, .f32⟩
  | 65 => ⟨S1x1x1536, .f32⟩
  | 66 => ⟨S4x2048x1536, .f32⟩
  | 67 => ⟨S4x2048x1536, .f32⟩
  | 68 => ⟨S4x2048x3072, .f32⟩
  | 69 => ⟨S1x1x3072, .f32⟩
  | 70 => ⟨S4x2048x3072, .f32⟩
  | 71 => ⟨S4x2048x3072, .f32⟩
  | 72 => ⟨S4x2048x1536, .f32⟩
  | 73 => ⟨S4x2048x1536, .f32⟩
  | 74 => ⟨S_, .f32⟩
  | 75 => ⟨S1536, .f32⟩
  | 76 => ⟨S1536, .f32⟩
  | 77 => ⟨S1536, .f32⟩
  | 78 => ⟨S1536, .f32⟩
  | 79 => ⟨S1536, .i1⟩
  | 80 => ⟨S1536, .f32⟩
  | 81 => ⟨S1536, .f32⟩
  | 82 => ⟨S1536, .f32⟩
  | 83 => ⟨S1536, .f32⟩
  | 84 => ⟨S1536, .f32⟩
  | 85 => ⟨S1536, .f32⟩
  | 86 => ⟨S1536, .f32⟩
  | 87 => ⟨S1536, .f32⟩
  | 88 => ⟨S_, .f32⟩
  | 89 => ⟨S1536, .f32⟩
  | 90 => ⟨S1536, .f32⟩
  | 91 => ⟨S4x2048x1536, .f32⟩
  | 92 => ⟨S4x2048x1536, .f32⟩
  | 93 => ⟨S_, .f32⟩
  | 94 => ⟨S4x2048x1536, .f32⟩
  | 95 => ⟨S4x2048x1536, .f32⟩
  | 96 => ⟨S_, .f32⟩
  | 97 => ⟨S4x2048x1536, .f32⟩
  | 98 => ⟨S4x2048x1536, .f32⟩
  | 99 => ⟨S1x1x1536, .f32⟩
  | 100 => ⟨S4x2048x1536, .f32⟩
  | 101 => ⟨S4x2048x1536, .f32⟩
  | 102 => ⟨S4x2048x1536, .f32⟩
  | 103 => ⟨S4x2048x1536, .f32⟩
  | 104 => ⟨S_, .f32⟩
  | 105 => ⟨S4x2048x1536, .f32⟩
  | 106 => ⟨S4x2048x1536, .f32⟩
  | 107 => ⟨S_, .f32⟩
  | 108 => ⟨S4x2048x1536, .f32⟩
  | 109 => ⟨S4x2048x1536, .f32⟩
  | 110 => ⟨S4x2048x1536, .f32⟩
  | 111 => ⟨S4x2048x1536, .f32⟩
  | 112 => ⟨S4x2048x1536, .f32⟩
  | 113 => ⟨S_, .f32⟩
  | 114 => ⟨S4x2048x1536, .f32⟩
  | 115 => ⟨S4x2048x1536, .f32⟩
  | 116 => ⟨S_, .f32⟩
  | 117 => ⟨S4x2048x1536, .f32⟩
  | 118 => ⟨S4x2048x1536, .f32⟩
  | 119 => ⟨S4x2048x1536, .f32⟩
  | 120 => ⟨S4x2048x1536, .f32⟩
  | 121 => ⟨S_, .f32⟩
  | 122 => ⟨S4x1536, .f32⟩
  | 123 => ⟨S2048x4x1536, .f32⟩
  | 124 => ⟨S2048x4x1536, .f32⟩
  | 125 => ⟨S_, .f32⟩
  | 126 => ⟨S2048x4x1536, .f32⟩
  | 127 => ⟨S_, .i32⟩
  | _ => ⟨S4x2048x1024, .f32⟩

abbrev hbmTy0_1 (i : Nat) : BufTy := match i % 128 with
  | 0 => ⟨S2048x4x1536, .f32⟩
  | 1 => ⟨S2048x4x1536, .f32⟩
  | 2 => ⟨S_, .i32⟩
  | 3 => ⟨S4x1536, .f32⟩
  | 4 => ⟨S2048x4x1536, .f32⟩
  | 5 => ⟨S_, .i32⟩
  | 6 => ⟨S_, .i1⟩
  | 7 => ⟨S_, .i32⟩
  | 8 => ⟨S_, .i32⟩
  | 9 => ⟨S1x4x1536, .f32⟩
  | 10 => ⟨S4x1536, .f32⟩
  | 11 => ⟨S_, .i32⟩
  | 12 => ⟨S_, .i32⟩
  | 13 => ⟨S1x4x1536, .f32⟩
  | 14 => ⟨S4x1536, .f32⟩
  | 15 => ⟨S4x1536, .f32⟩
  | 16 => ⟨S4x1536, .f32⟩
  | 17 => ⟨S1x4x1536, .f32⟩
  | 18 => ⟨S_, .i32⟩
  | 19 => ⟨S_, .i32⟩
  | 20 => ⟨S2048x4x1536, .f32⟩
  | 21 => ⟨S_, .i32⟩
  | 22 => ⟨S_, .i32⟩
  | 23 => ⟨S4x2048x1536, .f32⟩
  | 24 => ⟨S_, .f32⟩
  | 25 => ⟨S4x2048x1536, .f32⟩
  | 26 => ⟨S4x2048x1536, .f32⟩
  | 27 => ⟨S4x2048x1536, .f32⟩
  | 28 => ⟨S_, .f32⟩
  | 29 => ⟨S4x2048x1536, .f32⟩
  | 30 => ⟨S4x2048x1536, .f32⟩
  | 31 => ⟨S4x2048x1536, .f32⟩
  | 32 => ⟨S4x2048x1536, .f32⟩
  | 33 => ⟨S4x2048x1536, .f32⟩
  | 34 => ⟨S4x2048x1024, .f32⟩
  | 35 => ⟨S4x2048x1024, .f32⟩
  | 36 => ⟨S4x2048x1024, .f32⟩
  | 37 => ⟨S_, .f32⟩
  | 38 => ⟨S4x2048, .f32⟩
  | 39 => ⟨S4x2048x1, .f32⟩
  | 40 => ⟨S4x2048x1, .f32⟩
  | 41 => ⟨S_, .f32⟩
  | 42 => ⟨S_, .f32⟩
  | 43 => ⟨S1024, .f32⟩
  | 44 => ⟨S1024, .f32⟩
  | 45 => ⟨S_, .f32⟩
  | 46 => ⟨S4x2048x1, .f32⟩
  | 47 => ⟨S4x2048x1, .f32⟩
  | 48 => ⟨S4x2048x1024, .f32⟩
  | 49 => ⟨S4x2048x1024, .f32⟩
  | 50 => ⟨S1x1x1024, .f32⟩
  | 51 => ⟨S4x2048x1024, .f32⟩
  | 52 => ⟨S4x2048x1024, .f32⟩
  | 53 => ⟨S4x2048x4096, .f32⟩
  | 54 => ⟨S4x2048x2048, .f32⟩
  | 55 => ⟨S4x2048x2048, .f32⟩
  | 56 => ⟨S_, .f32⟩
  | 57 => ⟨S4x2048x2048, .f32⟩
  | 58 => ⟨S4x2048x2048, .f32⟩
  | 59 => ⟨S4x2048x2048, .f32⟩
  | 60 => ⟨S_, .f32⟩
  | 61 => ⟨S4x2048x2048, .f32⟩
  | 62 => ⟨S4x2048x2048, .f32⟩
  | 63 => ⟨S4x2048x2048, .f32⟩
  | 64 => ⟨S4x2048x2048, .f32⟩
  | 65 => ⟨S4x2048x2048, .f32⟩
  | 66 => ⟨S4x2048x1024, .f32⟩
  | 67 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v56 : Ref sig .tc := ⟨.hbm, 87, rfl⟩
abbrev main_cst_3 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_4 : Ref sig .tc := ⟨.hbm, 93, rfl⟩
abbrev main_v61 : Ref sig .tc := ⟨.hbm, 94, rfl⟩
abbrev main_v62 : Ref sig .tc := ⟨.hbm, 95, rfl⟩
abbrev main_cst_5 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_6 : Ref sig .tc := ⟨.hbm, 104, rfl⟩
abbrev main_v70 : Ref sig .tc := ⟨.hbm, 105, rfl⟩
abbrev main_v71 : Ref sig .tc := ⟨.hbm, 106, rfl⟩
abbrev main_cst_7 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_8 : Ref sig .tc := ⟨.hbm, 113, rfl⟩
abbrev main_v77 : Ref sig .tc := ⟨.hbm, 114, rfl⟩
abbrev main_v78 : Ref sig .tc := ⟨.hbm, 115, rfl⟩
abbrev main_cst_9 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_10 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_11 : Ref sig .tc := ⟨.hbm, 125, rfl⟩
abbrev main_v86 : Ref sig .tc := ⟨.hbm, 126, rfl⟩
abbrev main_c_12 : Ref sig .tc := ⟨.hbm, 127, rfl⟩
abbrev main_v87_0 : Ref sig .tc := ⟨.hbm, 128, rfl⟩
abbrev main_v87_1 : Ref sig .tc := ⟨.hbm, 129, rfl⟩
abbrev main_v87_2 : Ref sig .tc := ⟨.hbm, 130, rfl⟩
abbrev main_v87_3 : Ref sig .tc := ⟨.hbm, 131, rfl⟩
abbrev main_v87_4 : Ref sig .tc := ⟨.hbm, 132, rfl⟩
abbrev main_while0c_c_24 : Ref sig .tc := ⟨.hbm, 133, rfl⟩
abbrev main_while0c_v126 : Ref sig .tc := ⟨.hbm, 134, rfl⟩
abbrev main_while0b_call2_c : Ref sig .tc := ⟨.hbm, 135, rfl⟩
abbrev main_while0b_call2_c_0 : Ref sig .tc := ⟨.hbm, 136, rfl⟩
abbrev main_while0b_call2_v0 : Ref sig .tc := ⟨.hbm, 137, rfl⟩
abbrev main_while0b_v126 : Ref sig .tc := ⟨.hbm, 138, rfl⟩
abbrev main_while0b_call3_c : Ref sig .tc := ⟨.hbm, 139, rfl⟩
abbrev main_while0b_call3_c_0 : Ref sig .tc := ⟨.hbm, 140, rfl⟩
abbrev main_while0b_call3_v0 : Ref sig .tc := ⟨.hbm, 141, rfl⟩
abbrev main_while0b_v127 : Ref sig .tc := ⟨.hbm, 142, rfl⟩
abbrev main_while0b_v128 : Ref sig .tc := ⟨.hbm, 143, rfl⟩
abbrev main_while0b_v129 : Ref sig .tc := ⟨.hbm, 144, rfl⟩
abbrev main_while0b_call4_v0 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_v130 : Ref sig .tc := ⟨.hbm, 148, rfl⟩
abbrev main_while0b_c_24 : Ref sig .tc := ⟨.hbm, 149, rfl⟩
abbrev main_while0b_v131 : Ref sig .tc := ⟨.hbm, 150, rfl⟩
abbrev main_v88 : Ref sig .tc := ⟨.hbm, 151, rfl⟩
abbrev main_cst_13 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_cst_14 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_cst_15 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_cst_16 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_17 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_18 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_19 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩

abbrev nD : Nat := 1
abbrev τ : Topo := Topo.v7x

variable {F : FTy → Type} [FloatOps F]

abbrev main_while0_count : Scf.Loop 32 := ⟨0#32, 2048#32, 1#32⟩
-- ==== Proof.KernelIdeal.RunB.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The guard of the body's `scf.if`: the second grid coordinate is zero. -/
abbrev cond0_0 (i : grid0.Coords) : Prop := (Scalar.cmpi .ne (Scalar.extui (Scalar.cmpi .eq (BitVec.ofNat 32 (i 1).val) 0#32)) 0#32) = 1#1
-- (the run's proof term is large: the definition's epilogue — `abstractNestedProofs` — walks it past the default budget)
set_option sl_exec.squeezeSlice true in
set_option sl_exec.resultNames true in
set_option maxHeartbeats 1000000 in
/-- What the body's stores leave in each output's staging memref, as pieces (last first) IN CASE B (`scf.if` 0 not taken: points 1, 2, … 15: 14 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S8x1536 .f32) (harg5 : arg5.IsWhole) (arg6 : Memref sig .tc .vmem S1x1536 .f32) (harg6 : arg6.IsWhole) (arg7 : Memref sig .tc .vmem S1536x3072 .bf16) (harg7 : arg7.IsWhole) (arg8 : Memref sig .tc .vmem S1x3072 .f32) (harg8 : arg8.IsWhole) (arg9 : Memref sig .tc .vmem S1x1536 .f32) (harg9 : arg9.IsWhole) (arg10 : Memref sig .tc .vmem S1536x1024 .bf16) (harg10 : arg10.IsWhole) (arg11 : Memref sig .tc .vmem S2x256x1024 .f32) (harg11 : arg11.IsWhole) (arg12 : Memref sig .tc .vmem S2x8x1536 .f32) (harg12 : arg12.IsWhole) (arg13 : Memref sig .tc .vmem S2x8x1536 .f32) (harg13 : arg13.IsWhole) (hc0 : ¬cond0_0 i)
    (x0 : Vec F S2x256x1024 .f32) (x1 : Vec F S1x1024 .f32) (x2 : Vec F S1024x3072 .bf16) (x3 : Vec F S8x1536 .f32) (x4 : Vec F S1x1536 .f32) (x5 : Vec F S1536x3072 .bf16) (x6 : Vec F S1x3072 .f32) (x7 : Vec F S1x1536 .f32) (x8 : Vec F S1536x1024 .bf16) (xs0 : Vec F S2x8x1536 .f32) (xs1 : Vec F S2x8x1536 .f32) :
    Σ' (L9 : List (View.Piece (Elt F) S2x256x1024 .f32)), Σ' (LS0 : List (View.Piece (Elt F) S2x8x1536 .f32)), { LS1 : List (View.Piece (Elt F) S2x8x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__hawk_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__hawk_kernel_eq_skeleton]; unfold cc0__hawk_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexact HS0
    iexact HS1

end Cert.KernelIdeal.Hand

end
-- ==== Proof.KernelIdeal.RunA.lean ====
module

public import proofs.«01_k».proof.Proof.KernelIdeal.RunB
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.squeezeSlice true in
set_option sl_exec.resultNames true in
set_option maxHeartbeats 1000000 in
/-- What the body's stores leave in each output's staging memref, as pieces (last first) IN CASE A (`scf.if` 0 taken: points 0, 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S8x1536 .f32) (harg5 : arg5.IsWhole) (arg6 : Memref sig .tc .vmem S1x1536 .f32) (harg6 : arg6.IsWhole) (arg7 : Memref sig .tc .vmem S1536x3072 .bf16) (harg7 : arg7.IsWhole) (arg8 : Memref sig .tc .vmem S1x3072 .f32) (harg8 : arg8.IsWhole) (arg9 : Memref sig .tc .vmem S1x1536 .f32) (harg9 : arg9.IsWhole) (arg10 : Memref sig .tc .vmem S1536x1024 .bf16) (harg10 : arg10.IsWhole) (arg11 : Memref sig .tc .vmem S2x256x1024 .f32) (harg11 : arg11.IsWhole) (arg12 : Memref sig .tc .vmem S2x8x1536 .f32) (harg12 : arg12.IsWhole) (arg13 : Memref sig .tc .vmem S2x8x1536 .f32) (harg13 : arg13.IsWhole) (hc0 : cond0_0 i)
    (x0 : Vec F S2x256x1024 .f32) (x1 : Vec F S1x1024 .f32) (x2 : Vec F S1024x3072 .bf16) (x3 : Vec F S8x1536 .f32) (x4 : Vec F S1x1536 .f32) (x5 : Vec F S1536x3072 .bf16) (x6 : Vec F S1x3072 .f32) (x7 : Vec F S1x1536 .f32) (x8 : Vec F S1536x1024 .bf16) :
    Σ' (L9 : List (View.Piece (Elt F) S2x256x1024 .f32)), Σ' (LS0 : List (View.Piece (Elt F) S2x8x1536 .f32)), { LS1 : List (View.Piece (Elt F) S2x8x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__hawk_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__hawk_kernel_eq_skeleton]; unfold cc0__hawk_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    iexists _; iexact HS1

end Cert.KernelIdeal.Hand

end
-- ==== Proof.KernelIdeal.Region0.lean ====
module

public import proofs.«01_k».proof.Proof.KernelIdeal.RunA
public import Idealize.ShloMosaic.Lib.Pipeline.RegionsLoop
public import Idealize.ShloMosaic.Lib.Pipeline.FrameSuffix

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__hawk_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 9, through which its contents are stated (`View.read_writes_of_cover`: the
    choice does not matter). -/
abbrev VO0_9 : View sig .tc .vmem S2x256x1024 .f32 := (Memref.whole cc0_stg9_0 : Memref sig .tc .vmem S2x256x1024 .f32).view
/-- Each window's current staging memref at point `t`, spelled as the pipeline passes it (`bodyAt0`), and its wholeness. -/
abbrev ms0_0 (t : Fin cfg0.N) : Memref sig .tc .vmem S2x256x1024 .f32 := win0_0.stage (cfg0.slots t 0)
/-- The staging buffer of the input rows is a whole one. -/
abbrev hs0_0 (t : Fin cfg0.N) : (ms0_0 t).IsWhole := hstage0_0 ((cfg0.slots t 0).cast nbuf0_0)
/-- The buffer that stages the scale of the first normalisation. -/
abbrev ms0_1 (t : Fin cfg0.N) : Memref sig .tc .vmem S1x1024 .f32 := win0_1.stage (cfg0.slots t 1)
/-- The staging buffer of the scale of the first normalisation is a whole one. -/
abbrev hs0_1 (t : Fin cfg0.N) : (ms0_1 t).IsWhole := hstage0_1 ((cfg0.slots t 1).cast nbuf0_1)
/-- The buffer that stages the input projection. -/
abbrev ms0_2 (t : Fin cfg0.N) : Memref sig .tc .vmem S1024x3072 .bf16 := win0_2.stage (cfg0.slots t 2)
/-- The staging buffer of the input projection is a whole one. -/
abbrev hs0_2 (t : Fin cfg0.N) : (ms0_2 t).IsWhole := hstage0_2 ((cfg0.slots t 2).cast nbuf0_2)
/-- The buffer that stages the convolution taps. -/
abbrev ms0_3 (t : Fin cfg0.N) : Memref sig .tc .vmem S8x1536 .f32 := win0_3.stage (cfg0.slots t 3)
/-- The staging buffer of the convolution taps is a whole one. -/
abbrev hs0_3 (t : Fin cfg0.N) : (ms0_3 t).IsWhole := hstage0_3 ((cfg0.slots t 3).cast nbuf0_3)
/-- The buffer that stages the convolution bias. -/
abbrev ms0_4 (t : Fin cfg0.N) : Memref sig .tc .vmem S1x1536 .f32 := win0_4.stage (cfg0.slots t 4)
/-- The staging buffer of the convolution bias is a whole one. -/
abbrev hs0_4 (t : Fin cfg0.N) : (ms0_4 t).IsWhole := hstage0_4 ((cfg0.slots t 4).cast nbuf0_4)
/-- The buffer that stages the gate weights. -/
abbrev ms0_5 (t : Fin cfg0.N) : Memref sig .tc .vmem S1536x3072 .bf16 := win0_5.stage (cfg0.slots t 5)
/-- The staging buffer of the gate weights is a whole one. -/
abbrev hs0_5 (t : Fin cfg0.N) : (ms0_5 t).IsWhole := hstage0_5 ((cfg0.slots t 5).cast nbuf0_5)
/-- The buffer that stages the gate bias. -/
abbrev ms0_6 (t : Fin cfg0.N) : Memref sig .tc .vmem S1x3072 .f32 := win0_6.stage (cfg0.slots t 6)
/-- The staging buffer of the gate bias is a whole one. -/
abbrev hs0_6 (t : Fin cfg0.N) : (ms0_6 t).IsWhole := hstage0_6 ((cfg0.slots t 6).cast nbuf0_6)
/-- The buffer that stages the forget base. -/
abbrev ms0_7 (t : Fin cfg0.N) : Memref sig .tc .vmem S1x1536 .f32 := win0_7.stage (cfg0.slots t 7)
/-- The staging buffer of the forget base is a whole one. -/
abbrev hs0_7 (t : Fin cfg0.N) : (ms0_7 t).IsWhole := hstage0_7 ((cfg0.slots t 7).cast nbuf0_7)
/-- The buffer that stages the output projection. -/
abbrev ms0_8 (t : Fin cfg0.N) : Memref sig .tc .vmem S1536x1024 .bf16 := win0_8.stage (cfg0.slots t 8)
/-- The staging buffer of the output projection is a whole one. -/
abbrev hs0_8 (t : Fin cfg0.N) : (ms0_8 t).IsWhole := hstage0_8 ((cfg0.slots t 8).cast nbuf0_8)
/-- The buffer that stages the output rows. -/
abbrev ms0_9 (t : Fin cfg0.N) : Memref sig .tc .vmem S2x256x1024 .f32 := win0_9.stage (cfg0.slots t 9)
/-- The staging buffer of the output rows is a whole one. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x8x1536 .f32 := Memref.whole cc0_scratch0
/-- The scratch that carries the recurrence's state. -/
abbrev scM0_1 : Memref sig .tc .vmem S2x8x1536 .f32 := Memref.whole cc0_scratch1

/-- What else the invariant of region 0 holds: the second call's staging buffers, which this region never touches,
    each at some contents. -/
def Idle0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Idle0 c) ∗ (∃ r, prngReg c r)) := by
  unfold Pipeline.ΦA Idle0; rw [scopedRest0_eq]; simp only [scM0_0, scM0_1, owns_whole]; try rfl

/-- The guard holds at the points ≡ 0 (mod 8): the first of each group of eight chunks. -/
theorem hcond0_0 (t : Fin cfg0.N) : cond0_0 (grid0.coords t) ↔ t.val % 8 = 0 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  simp only [cond0_0, e0, e1]
  word_cmp

/-! ## The two runs at a point's memrefs and blocks -/

/-- The run that clears the scratch first, at point `t`'s memrefs and input blocks. -/
def runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)

/-- The run that continues from scratch contents `xs0`, `xs1`, at point `t`'s memrefs and input blocks. -/
def runB (c : Dev nD) (t : Fin cfg0.N) (h0 : ¬t.val % 8 = 0) (xs0 xs1 : Vec F S2x8x1536 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) xs0 xs1

/-- The clearing run's two output stores tile the output block. -/
theorem coverA_9 (c : Dev nD) (t : Fin cfg0.N) (h0 : t.val % 8 = 0) (y : S2x256x1024.Idx) :
    ∃ pc ∈ (runA V c t h0).1, y ∈ pc.1.set :=
  View.cover_of_tiledL (runA V c t h0).1 S1x256x1024.size (by sl_kernel_rfl) y

/-- One of its stores into the first scratch is of the whole buffer. -/
theorem coverA_s0 (c : Dev nD) (t : Fin cfg0.N) (h0 : t.val % 8 = 0) (y : S2x8x1536.Idx) :
    ∃ pc ∈ (runA V c t h0).2.1, y ∈ pc.1.set :=
  View.cover_of_wholeMem (runA V c t h0).2.1 (by unfold runA; sl_whole_mem) y

/-- One of its stores into the second scratch is of the whole buffer. -/
theorem coverA_s1 (c : Dev nD) (t : Fin cfg0.N) (h0 : t.val % 8 = 0) (y : S2x8x1536.Idx) :
    ∃ pc ∈ (runA V c t h0).2.2.1, y ∈ pc.1.set :=
  View.cover_of_wholeMem (runA V c t h0).2.2.1 (by unfold runA; sl_whole_mem) y

/-- The continuing run's two output stores tile the output block. -/
theorem coverB_9 (c : Dev nD) (t : Fin cfg0.N) (h0 : ¬t.val % 8 = 0) (xs0 xs1 : Vec F S2x8x1536 .f32) (y : S2x256x1024.Idx) :
    ∃ pc ∈ (runB V c t h0 xs0 xs1).1, y ∈ pc.1.set :=
  View.cover_of_tiledL (runB V c t h0 xs0 xs1).1 S1x256x1024.size (by sl_kernel_rfl) y

/-! ## What the output block and the two scratch buffers hold after each point -/

/-- After a clearing point: the output block, the first scratch, the second. -/
def afterA (c : Dev nD) (t : Fin cfg0.N) (h0 : t.val % 8 = 0) :
    Vec F S2x256x1024 .f32 × Vec F S2x8x1536 .f32 × Vec F S2x8x1536 .f32 :=
  (VO0_9.read (Elt F) (VO0_9.writes (Elt F) VO0_9.junk (runA V c t h0).1),
    scM0_0.view.read (Elt F) (scM0_0.view.writes (Elt F) scM0_0.view.junk (runA V c t h0).2.1),
    scM0_1.view.read (Elt F) (scM0_1.view.writes (Elt F) scM0_1.view.junk (runA V c t h0).2.2.1))

/-- After a continuing point that found the scratch at `xs0`, `xs1`. -/
def afterB (c : Dev nD) (t : Fin cfg0.N) (h0 : ¬t.val % 8 = 0) (xs0 xs1 : Vec F S2x8x1536 .f32) :
    Vec F S2x256x1024 .f32 × Vec F S2x8x1536 .f32 × Vec F S2x8x1536 .f32 :=
  (VO0_9.read (Elt F) (VO0_9.writes (Elt F) VO0_9.junk (runB V c t h0 xs0 xs1).1),
    scM0_0.view.read (Elt F) (scM0_0.view.writes (Elt F) ((Memref.isWhole_whole _ : scM0_0.IsWhole).unread xs0) (runB V c t h0 xs0 xs1).2.1),
    scM0_1.view.read (Elt F) (scM0_1.view.writes (Elt F) ((Memref.isWhole_whole _ : scM0_1.IsWhole).unread xs1) (runB V c t h0 xs0 xs1).2.2.1))

/-- After point `n`, by recursion over the points. -/
def outsAt0 (c : Dev nD) : (n : ℕ) → n < cfg0.N → Vec F S2x256x1024 .f32 × Vec F S2x8x1536 .f32 × Vec F S2x8x1536 .f32
  | 0, hn => afterA V c ⟨0, hn⟩ (Nat.zero_mod _)
  | n + 1, hn =>
    if h0 : (n + 1) % 8 = 0 then afterA V c ⟨n + 1, hn⟩ h0
    else afterB V c ⟨n + 1, hn⟩ h0 (outsAt0 c n (Nat.lt_of_succ_lt hn)).2.1 (outsAt0 c n (Nat.lt_of_succ_lt hn)).2.2

/-- At a clearing point. -/
theorem outsAt0_A (c : Dev nD) (t : Fin cfg0.N) (h0 : t.val % 8 = 0) : outsAt0 V c t.val t.isLt = afterA V c t h0 := by
  obtain ⟨n, hn⟩ := t
  cases n with
  | zero => rfl
  | succ n => exact dif_pos h0

/-- At a continuing point, from what the point before left. -/
theorem outsAt0_B (c : Dev nD) (t : Fin cfg0.N) (h0 : ¬t.val % 8 = 0) :
    outsAt0 V c t.val t.isLt = afterB V c t h0 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact absurd (Nat.zero_mod _) h0
  | succ n => exact dif_neg h0

/-- The invariant before position `n`: at first every scratch at anything; afterwards the two scratch buffers at what
    the point before left in them. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ Idle0 c) ∗ (∃ r, prngReg c r))

/-- What holds of the scratch after a point is what that point leaves. -/
theorem PhiS_succ (c : Dev nD) (n : ℕ) (hn : n < cfg0.N) :
    PhiS V c (n + 1) hn = iprop(iprop(owns (c : Thread nD τ) scM0_0 fullShare (outsAt0 V c n hn).2.1 ∗ owns (c : Thread nD τ) scM0_1 fullShare (outsAt0 V c n hn).2.2 ∗ Idle0 c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare (outsAt0 V c (n - 1) (by omega)).2.1 ∗ owns (c : Thread nD τ) scM0_1 fullShare (outsAt0 V c (n - 1) (by omega)).2.2 ∗ Idle0 c) ∗ (∃ r, prngReg c r)) := by
  cases n with
  | zero => exact absurd rfl hz
  | succ n => rfl

/-- At any position the scratch is held at something. -/
theorem PhiS_some (c : Dev nD) (n : ℕ) (h : n ≤ cfg0.N) : PhiS V c n h ⊢ Pipeline.ΦA spec0 c := by
  cases n with
  | zero => exact Idealize.SL.BI.Entails.refl _
  | succ n =>
    rw [PhiS_succ, PhiA0_eq]
    iintro ⟨⟨HS0, HS1, HR⟩, Hg⟩
    isplitl [HS0 HS1 HR]
    · isplitl [HS0]
      · iexists _; iexact HS0
      isplitl [HS1]
      · iexists _; iexact HS1
      iexact HR
    iexact Hg

/-! ## The pipeline's proof data -/

/-- The proof data of pipeline 0 on core `c`: the arrays as the region finds them (`V`); after the body at
    point `t` each input's buffer at its block and the outputs' at `outsAt0`; the invariant the class's
    with the scratch at `outsAt0`'s other components (`PhiS`); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What the body leaves in the staging buffer of the scale of the first normalisation. -/
theorem after0_1 (c : Dev nD) (t : Fin cfg0.N) : (dat0 V c).after 1 t = iblk0 V c 1 t := by dsimp only [dat0]
/-- What the body leaves in the staging buffer of the input projection. -/
theorem after0_2 (c : Dev nD) (t : Fin cfg0.N) : (dat0 V c).after 2 t = iblk0 V c 2 t := by dsimp only [dat0]
/-- What the body leaves in the staging buffer of the convolution taps. -/
theorem after0_3 (c : Dev nD) (t : Fin cfg0.N) : (dat0 V c).after 3 t = iblk0 V c 3 t := by dsimp only [dat0]
/-- What the body leaves in the staging buffer of the convolution bias. -/
theorem after0_4 (c : Dev nD) (t : Fin cfg0.N) : (dat0 V c).after 4 t = iblk0 V c 4 t := by dsimp only [dat0]
/-- What the body leaves in the staging buffer of the gate weights. -/
theorem after0_5 (c : Dev nD) (t : Fin cfg0.N) : (dat0 V c).after 5 t = iblk0 V c 5 t := by dsimp only [dat0]
/-- What the body leaves in the staging buffer of the gate bias. -/
theorem after0_6 (c : Dev nD) (t : Fin cfg0.N) : (dat0 V c).after 6 t = iblk0 V c 6 t := by dsimp only [dat0]
/-- What the body leaves in the staging buffer of the forget base. -/
theorem after0_7 (c : Dev nD) (t : Fin cfg0.N) : (dat0 V c).after 7 t = iblk0 V c 7 t := by dsimp only [dat0]
/-- What the body leaves in the staging buffer of the output projection. -/
theorem after0_8 (c : Dev nD) (t : Fin cfg0.N) : (dat0 V c).after 8 t = iblk0 V c 8 t := by dsimp only [dat0]
/-- What the body leaves in the staging buffer of the output rows. -/
theorem after0_9 (c : Dev nD) (t : Fin cfg0.N) : (dat0 V c).after 9 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What the body finds in the staging buffer of the scale of the first normalisation. -/
theorem before0_1 (c : Dev nD) (t : Fin cfg0.N) (d) : (dat0 V c).before 1 t d = iblk0 V c 1 t :=
  before0_1_of V (dat0 V c) (A_eq0 V c 1) (after0_1 V c) t d
/-- What the body finds in the staging buffer of the input projection. -/
theorem before0_2 (c : Dev nD) (t : Fin cfg0.N) (d) : (dat0 V c).before 2 t d = iblk0 V c 2 t :=
  before0_2_of V (dat0 V c) (A_eq0 V c 2) (after0_2 V c) t d
/-- What the body finds in the staging buffer of the convolution taps. -/
theorem before0_3 (c : Dev nD) (t : Fin cfg0.N) (d) : (dat0 V c).before 3 t d = iblk0 V c 3 t :=
  before0_3_of V (dat0 V c) (A_eq0 V c 3) (after0_3 V c) t d
/-- What the body finds in the staging buffer of the convolution bias. -/
theorem before0_4 (c : Dev nD) (t : Fin cfg0.N) (d) : (dat0 V c).before 4 t d = iblk0 V c 4 t :=
  before0_4_of V (dat0 V c) (A_eq0 V c 4) (after0_4 V c) t d
/-- What the body finds in the staging buffer of the gate weights. -/
theorem before0_5 (c : Dev nD) (t : Fin cfg0.N) (d) : (dat0 V c).before 5 t d = iblk0 V c 5 t :=
  before0_5_of V (dat0 V c) (A_eq0 V c 5) (after0_5 V c) t d
/-- What the body finds in the staging buffer of the gate bias. -/
theorem before0_6 (c : Dev nD) (t : Fin cfg0.N) (d) : (dat0 V c).before 6 t d = iblk0 V c 6 t :=
  before0_6_of V (dat0 V c) (A_eq0 V c 6) (after0_6 V c) t d
/-- What the body finds in the staging buffer of the forget base. -/
theorem before0_7 (c : Dev nD) (t : Fin cfg0.N) (d) : (dat0 V c).before 7 t d = iblk0 V c 7 t :=
  before0_7_of V (dat0 V c) (A_eq0 V c 7) (after0_7 V c) t d
/-- What the body finds in the staging buffer of the output projection. -/
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 9600000 in
/-- The body at a clearing point, whatever the scratch held. -/
theorem sound_bodyA (c : Dev nD) (t : Fin cfg0.N) (h0 : t.val % 8 = 0) :
    bodyPre0 V c t ⊢ wp frame (wpE (defs₀ (F := F)) Variants.none c none) Set.univ (bodyAt0 t) (fun _ => bodyPost0 V c t) := by
  unfold bodyPre0 bodyPost0 bodyAt0
  refine (BIClass.sep_mono (show (dat0 V c).Φ t.castSucc ⊢ Pipeline.ΦA spec0 c from PhiS_some V c _ _) .rfl).trans ?_
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9]
  rw [show (dat0 V c).Φ t.succ = PhiS V c (t.val + 1) t.isLt from rfl, PhiS_succ, PhiA0_eq, outsAt0_A V c t h0]
  unfold afterA; dsimp only
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA V c t h0).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, ⟨%e9, H9⟩, ⟨%es0, HS0⟩, ⟨%es1, HS1⟩⟩
  isplitl [HS0 HS1 HR Hg]
  · isplitl [HS0 HS1 HR]
    · isplitl [HS0]
      · unfold owns; iexists _; isplitr
        swap; · iexact HS0
        ipureintro; exact View.read_writes_of_cover _ _ _ _ _ (coverA_s0 V c t h0)
      isplitl [HS1]
      · unfold owns; iexists _; isplitr
        swap; · iexact HS1
        ipureintro; exact View.read_writes_of_cover _ _ _ _ _ (coverA_s1 V c t h0)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (coverA_9 V c t h0)

set_option maxHeartbeats 9600000 in
/-- The body at a continuing point, the scratch at what the point before left. -/
theorem sound_bodyB (c : Dev nD) (t : Fin cfg0.N) (h0 : ¬t.val % 8 = 0) :
    bodyPre0 V c t ⊢ wp frame (wpE (defs₀ (F := F)) Variants.none c none) Set.univ (bodyAt0 t) (fun _ => bodyPost0 V c t) := by
  have hz : t.val ≠ 0 := fun h => h0 (by rw [h])
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9]
  rw [show (dat0 V c).Φ t.succ = PhiS V c (t.val + 1) t.isLt from rfl, PhiS_succ,
    show (dat0 V c).Φ t.castSucc = PhiS V c t.val (Nat.le_of_lt t.isLt) from Pipeline.Dat.Φ_castSucc (PhiS V c) t, PhiS_pos V c _ _ hz, outsAt0_B V c t h0]
  unfold afterB; dsimp only
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB V c t h0 _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, ⟨%e9, H9⟩, HS0, HS1⟩
  isplitl [HS0 HS1 HR Hg]
  · isplitl [HS0 HS1 HR]
    · isplitl [HS0]
      · unfold owns; iexists _; isplitr
        swap; · iexact HS0
        ipureintro; rfl
      isplitl [HS1]
      · unfold owns; iexists _; isplitr
        swap; · iexact HS1
        ipureintro; rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (coverB_9 V c t h0 _ _)

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 8 = 0
  · exact sound_bodyA V c t h0
  · exact sound_bodyB V c t h0

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point. -/
theorem hin0 (c : Dev nD) : Pipeline.ΦA spec0 c ⊢ (dat0 V c).Φ 0 := Idealize.SL.BI.Entails.refl _

/-- After the last point the invariant gives it back. -/
theorem hout0 (c : Dev nD) : (dat0 V c).Φ (Fin.last cfg0.N) ⊢ Pipeline.ΦA spec0 c :=
  (show (dat0 V c).Φ (Fin.last cfg0.N) = PhiS V c (Fin.last cfg0.N).val (Nat.le_of_lt_succ (Fin.last cfg0.N).isLt) from rfl) ▸ PhiS_some V c _ _

end Regions

end Cert.KernelIdeal.Hand

end
-- ==== Proof.Math.Spec.lean ====
module

public import Idealize.ShloMosaic.Lib.Pointwise
public import Idealize.ShloMosaic.Lib.IdealHost

@[expose] public section

noncomputable section

/-! # What the layer computes, over the extended reals

One sequence at a time: `X t k` is entry `k` of the row at time `t`. Everything before the recurrence is a function of the
rows at times `t`, `t - 1`, `t - 2` and `t - 3`; the recurrence runs over `t`; everything after it is a function of one row. -/

namespace Cert.Spec

open Idealize.ShloMosaic

/-- The layer's parameters. -/
structure Par where
  gam : Fin 1024 → EReal
  win : Fin 3072 → Fin 1024 → EReal
  cw : Fin 1536 → Fin 4 → EReal
  cb : Fin 1536 → EReal
  wg : Fin 3072 → Fin 1536 → EReal
  bg : Fin 3072 → EReal
  fb : Fin 1536 → EReal
  wo : Fin 1024 → Fin 1536 → EReal
  gam2 : Fin 1024 → EReal
  wgrow : Fin 4096 → Fin 1024 → EReal
  wsh : Fin 1024 → Fin 2048 → EReal

/-- The constants that both programs carry as the same float words: 1/2, the rounded root of 1/2, 1e-6 and -8. -/
abbrev half : EReal := Ideal.ofBits .f32 0x3F000000#32
/-- The float nearest the root of one half. -/
abbrev rootHalf : EReal := Ideal.ofBits .f32 0x3F3504F3#32
/-- The small number under the root of the input's scale. -/
abbrev eps : EReal := Ideal.ofBits .f32 0x358637BD#32
/-- The fixed scale of the decay's logarithm. -/
abbrev minusEight : EReal := Ideal.ofBits .f32 0xC1000000#32

/-- The lower and the upper half of `2 n` channels. -/
abbrev lo1536 (j : Fin 1536) : Fin 3072 := ⟨j.val, by omega⟩
/-- An index in the upper half of 3072 columns. -/
abbrev hi1536 (j : Fin 1536) : Fin 3072 := ⟨j.val + 1536, by omega⟩
/-- An index in the lower half of 4096 columns. -/
abbrev lo2048 (j : Fin 2048) : Fin 4096 := ⟨j.val, by omega⟩
/-- An index in the upper half of 4096 columns. -/
abbrev hi2048 (j : Fin 2048) : Fin 4096 := ⟨j.val + 2048, by omega⟩

/-- A row divided by its 2-norm, scaled by `32 γ`. -/
def normed (γ row : Fin 1024 → EReal) (k : Fin 1024) : EReal :=
  (row k * Ideal.rsqrt (∑ l, row l * row l)) * (γ k * 32)

/-- The exact gaussian error linear unit, at the programs' rounded constants. -/
def gelu (z : EReal) : EReal := half * z * (1 + Ideal.erf (z * rootHalf))

section Hawk

variable (P : Par) (X : ℕ → Fin 1024 → EReal)

/-- The input projection. -/
def proj (t : ℕ) (o : Fin 3072) : EReal := ∑ k, normed P.gam (X t) k * P.win o k

/-- The channels that enter the convolution, and the gate's. -/
def val (t : ℕ) (j : Fin 1536) : EReal := proj P X t (hi1536 j)
/-- The lower half of the projection: what gates the recurrence's output. -/
def gate (t : ℕ) (j : Fin 1536) : EReal := proj P X t (lo1536 j)

/-- The convolution's channels `d` steps ago, zero before the sequence starts. -/
def lag (t d : ℕ) (j : Fin 1536) : EReal := if t < d then 0 else val P X (t - d) j

/-- The causal convolution of width four. -/
def conv (t : ℕ) (j : Fin 1536) : EReal :=
  val P X t j * P.cw j 3 + lag P X t 1 j * P.cw j 2 + lag P X t 2 j * P.cw j 1 + lag P X t 3 j * P.cw j 0 + P.cb j

/-- The two gates before their logistic. -/
def gates (t : ℕ) (o : Fin 3072) : EReal := (∑ j, conv P X t j * P.wg o j) + P.bg o

/-- The logarithm of the decay. -/
def logDecay (t : ℕ) (j : Fin 1536) : EReal :=
  minusEight * Ideal.log1p (Ideal.exp (P.fb j)) * Ideal.logistic (gates P X t (lo1536 j))

/-- What enters the recurrence. -/
def drive (t : ℕ) (j : Fin 1536) : EReal :=
  Ideal.sqrt (1 - Ideal.exp (2 * logDecay P X t j) + eps) * Ideal.logistic (gates P X t (hi1536 j)) * conv P X t j

/-- The recurrence's state before time `t`: zero, then decayed and driven once per step. -/
def state : ℕ → Fin 1536 → EReal
  | 0, _ => 0
  | t + 1, j => Ideal.exp (logDecay P X t j) * state t j + drive P X t j

/-- The row after the recurrent half: the residual and the projected gated state. -/
def mixed (t : ℕ) (k : Fin 1024) : EReal :=
  X t k + ∑ j, gelu (gate P X t j) * state P X (t + 1) j * P.wo k j

end Hawk

/-- The gated multilayer half on one row, with its residual. -/
def mlp (P : Par) (row : Fin 1024 → EReal) (k : Fin 1024) : EReal :=
  row k + ∑ j, gelu (∑ l, normed P.gam2 row l * P.wgrow (lo2048 j) l) * (∑ l, normed P.gam2 row l * P.wgrow (hi2048 j) l) * P.wsh k j

end Cert.Spec

end
-- ==== Proof.Math.Scalars.lean ====
module

public import proofs.«01_k».proof.Proof.Math.Spec

@[expose] public section

noncomputable section

/-! # Scalar facts over the extended reals -/

namespace Cert.Spec

open Idealize.ShloMosaic

/-- The float word of 32. -/
theorem ofBits_32 : Ideal.ofBits .f32 0x42000000#32 = 32 := by
  show Ideal.ieee 8 23 (0x42000000#32) = ((32 : ℝ) : EReal)
  simp [Ideal.ieee]
  rw [← EReal.coe_mul, EReal.coe_eq_coe_iff]
  norm_num

/-- The float word of 1024. -/
theorem ofBits_1024 : Ideal.ofBits .f32 0x44800000#32 = ((1024 : ℝ) : EReal) := by
  show Ideal.ieee 8 23 (0x44800000#32) = _
  simp [Ideal.ieee]
  rw [← EReal.coe_mul, EReal.coe_eq_coe_iff]
  norm_num

/-- The float word of 2. -/
theorem ofBits_2 : Ideal.ofBits .f32 0x40000000#32 = 2 := by
  show Ideal.ieee 8 23 (0x40000000#32) = ((2 : ℝ) : EReal)
  simp [Ideal.ieee]
  rw [← EReal.coe_mul, EReal.coe_eq_coe_iff]
  norm_num

/-- The decay's scale is the real number -8. -/
theorem minusEight_eq : minusEight = ((-8 : ℝ) : EReal) := by
  show Ideal.ieee 8 23 (0xC1000000#32) = _
  simp [Ideal.ieee]
  rw [← EReal.coe_mul, EReal.coe_eq_coe_iff]
  norm_num

/-- The root of 1024. -/
theorem sqrt_1024 : Ideal.sqrt (Ideal.ofBits .f32 0x44800000#32) = 32 := by
  rw [ofBits_1024, Ideal.sqrt_coe, if_neg (by norm_num), show (1024 : ℝ) = 32 ^ 2 by norm_num, Real.sqrt_sq (by norm_num)]
  rfl

/-- A sum of squares is not negative. -/
theorem sum_sq_nonneg {n : ℕ} (f : Fin n → EReal) : 0 ≤ ∑ i, f i * f i := by
  refine Finset.sum_nonneg fun i _ => ?_
  induction f i with
  | bot => simp
  | top => simp
  | coe r => exact_mod_cast mul_self_nonneg r

/-- The reciprocal of the root is the reciprocal root, of what is not negative. -/
theorem div_sqrt {s : EReal} (hs : 0 ≤ s) : Ideal.div 1 (Ideal.sqrt s) = Ideal.rsqrt s := by
  induction s with
  | bot => simp at hs
  | top => simp [Ideal.div]
  | coe r =>
    have hr : 0 ≤ r := by exact_mod_cast hs
    rw [Ideal.sqrt_coe, Ideal.rsqrt_coe, if_neg (not_lt.mpr hr), if_neg (not_lt.mpr hr)]
    by_cases h0 : r = 0
    · simp [h0, Ideal.div]
    · have : Real.sqrt r ≠ 0 := (Real.sqrt_pos.mpr (lt_of_le_of_ne hr (Ne.symm h0))).ne'
      rw [if_neg h0, Ideal.div_coe this, one_mul, one_div]

/-- The reference's normalised row is the kernel's. -/
theorem normed_eq (γ row : Fin 1024 → EReal) (k : Fin 1024) :
    (γ k * Ideal.sqrt (Ideal.ofBits .f32 0x44800000#32)) * (row k * Ideal.div 1 (Ideal.sqrt (∑ l, row l * row l))) = normed γ row k := by
  rw [sqrt_1024, div_sqrt (sum_sq_nonneg row), mul_comm]
  rfl

/-- The two spellings of the exact error linear unit agree. -/
theorem gelu_eq (z : EReal) : half * z * Ideal.erfc (-z * rootHalf) = gelu z := by
  rw [EReal.neg_mul, Ideal.erfc_neg]
  rfl

/-- The square of an exponential is the exponential of the double. -/
theorem exp_two_mul (a : EReal) : Ideal.exp a * Ideal.exp a = Ideal.exp (2 * a) := by
  induction a with
  | bot =>
    rw [show (2 : EReal) = ((2 : ℝ) : EReal) from rfl, EReal.coe_mul_bot_of_pos (by norm_num)]
    simp
  | top =>
    rw [show (2 : EReal) = ((2 : ℝ) : EReal) from rfl, EReal.coe_mul_top_of_pos (by norm_num)]
    simp
  | coe r =>
    rw [show (2 : EReal) = ((2 : ℝ) : EReal) from rfl, ← EReal.coe_mul]
    simp only [Ideal.exp_coe, ← EReal.coe_mul, ← Real.exp_add]
    congr 2
    ring

/-- The soft positive part in its stable spelling is `log (1 + exp z)`. -/
theorem softplus_eq (z : EReal) : max z 0 + Ideal.log1p (Ideal.exp (-(max z (-z)))) = Ideal.log1p (Ideal.exp z) := by
  induction z with
  | bot => simp [Ideal.log1p]
  | top =>
    have : (1 : EReal) + ⊤ = ⊤ := EReal.coe_add_top 1
    simp [Ideal.log1p, this]
    rw [← EReal.coe_one, Ideal.log_coe]
    norm_num
  | coe r =>
    have key : ∀ s : ℝ, Ideal.log1p (Ideal.exp (s : EReal)) = ((Real.log (1 + Real.exp s) : ℝ) : EReal) := fun s => by
      have : 0 < 1 + Real.exp s := by positivity
      rw [Ideal.log1p, Ideal.exp_coe, ← EReal.coe_one, ← EReal.coe_add, Ideal.log_coe, if_neg (not_le.mpr this)]
    have hm : max (r : EReal) 0 = ((max r 0 : ℝ) : EReal) := by
      rw [← EReal.coe_zero]
      exact (EReal.coe_strictMono.monotone.map_max).symm
    have ha : -(max (r : EReal) (-(r : EReal))) = ((-|r| : ℝ) : EReal) := by
      rw [← EReal.coe_neg, ← EReal.coe_strictMono.monotone.map_max, ← EReal.coe_neg]
      rfl
    rw [ha, hm, key, key, ← EReal.coe_add, EReal.coe_eq_coe_iff]
    rcases le_total 0 r with h | h
    · rw [max_eq_left h, abs_of_nonneg h]
      have h1 : 1 + Real.exp r = Real.exp r * (1 + Real.exp (-r)) := by
        rw [mul_add, ← Real.exp_add]; simp; ring
      rw [h1, Real.log_mul (by positivity) (by positivity), Real.log_exp]
    · rw [max_eq_right h, abs_of_nonpos h, neg_neg, zero_add]

/-- The logistic is a real number. -/
theorem logistic_real (z : EReal) : ∃ r : ℝ, Ideal.logistic z = (r : EReal) := by
  induction z with
  | bot => exact ⟨0, by simp⟩
  | top => exact ⟨1, by simp⟩
  | coe r => exact ⟨_, Ideal.logistic_coe r⟩

/-- Below infinity, `log (1 + exp z)` is a real number. -/
theorem softplus_real {z : EReal} (hz : z < ⊤) : ∃ r : ℝ, Ideal.log1p (Ideal.exp z) = (r : EReal) := by
  induction z with
  | bot => exact ⟨0, by simp [Ideal.log1p]; rw [← EReal.coe_one, Ideal.log_coe]; norm_num⟩
  | top => exact absurd hz (lt_irrefl _)
  | coe s =>
    have : 0 < 1 + Real.exp s := by positivity
    exact ⟨Real.log (1 + Real.exp s), by
      rw [Ideal.log1p, Ideal.exp_coe, ← EReal.coe_one, ← EReal.coe_add, Ideal.log_coe, if_neg (not_le.mpr this)]⟩

/-- The logarithm of the decay is a real number where the forget base is below infinity. -/
theorem logDecay_real (P : Par) (X : ℕ → Fin 1024 → EReal) (t : ℕ) (j : Fin 1536) (hj : P.fb j < ⊤) :
    ∃ r : ℝ, logDecay P X t j = (r : EReal) := by
  obtain ⟨a, ha⟩ := softplus_real hj
  obtain ⟨b, hb⟩ := logistic_real (gates P X t (lo1536 j))
  exact ⟨-8 * a * b, by rw [logDecay, minusEight_eq, ha, hb]; rfl⟩

end Cert.Spec

end
-- ==== Proof.Math.Scan.lean ====
module

public import proofs.«01_k».proof.Proof.Math.Scalars

@[expose] public section

noncomputable section

/-! # A linear recurrence by cumulative sums

Over a chunk of steps the kernel forms the cumulative sums of the decay's logarithms, divides each drive by its cumulative
decay, sums, adds the incoming state and multiplies the cumulative decay back. With real logarithms this is the recurrence. -/

namespace Cert.Spec

open Idealize.ShloMosaic

/-- The recurrence from an incoming state. -/
def recur (la xg : ℕ → EReal) (h₀ : EReal) : ℕ → EReal
  | 0 => h₀
  | n + 1 => Ideal.exp (la n) * recur la xg h₀ n + xg n

/-- A sum of reals, read in the extended reals. -/
theorem sum_coe (la : ℕ → ℝ) (n : ℕ) : ∑ s ∈ Finset.range n, ((la s : ℝ) : EReal) = ((∑ s ∈ Finset.range n, la s : ℝ) : EReal) := by
  induction n with
  | zero => simp
  | succ n ih => rw [Finset.sum_range_succ, ih, Finset.sum_range_succ, EReal.coe_add]

/-- Division by a positive real and multiplication by it cancel, at every extended real. -/
theorem mul_div_exp (c : ℝ) (x : EReal) : Ideal.exp c * Ideal.div x (Ideal.exp c) = x := by
  have hc : Real.exp c ≠ 0 := (Real.exp_pos c).ne'
  rw [Ideal.exp_coe, Ideal.div_coe hc, mul_comm x, ← mul_assoc, ← EReal.coe_mul, mul_one_div_cancel hc, EReal.coe_one, one_mul]

/-- An exponential of a real distributes over any sum of extended reals. -/
theorem exp_distrib (c : ℝ) (x y : EReal) : Ideal.exp c * (x + y) = Ideal.exp c * x + Ideal.exp c * y := by
  rw [Ideal.exp_coe]
  exact EReal.left_distrib_of_nonneg_of_ne_top (by exact_mod_cast (Real.exp_pos c).le) (EReal.coe_ne_top _) x y

/-- The chunk's closed form is the recurrence. -/
theorem chunk (la : ℕ → ℝ) (xg : ℕ → EReal) (h₀ : EReal) (n : ℕ) :
    Ideal.exp (∑ s ∈ Finset.range (n + 1), ((la s : ℝ) : EReal))
        * (h₀ + ∑ s ∈ Finset.range (n + 1), Ideal.div (xg s) (Ideal.exp (∑ u ∈ Finset.range (s + 1), ((la u : ℝ) : EReal))))
      = recur (fun s => ((la s : ℝ) : EReal)) xg h₀ (n + 1) := by
  simp only [sum_coe]
  induction n with
  | zero =>
    simp only [zero_add, Finset.sum_range_one]
    rw [exp_distrib, mul_div_exp]
    rfl
  | succ n ih =>
    rw [Finset.sum_range_succ (fun s => Ideal.div (xg s) _), ← add_assoc, exp_distrib, mul_div_exp, recur, ← ih]
    congr 1
    rw [Finset.sum_range_succ la (n + 1), add_comm, ← mul_assoc]
    congr 1
    simp only [Ideal.exp_coe, ← EReal.coe_mul, ← Real.exp_add]

/-- A product with the lower triangle of ones is a cumulative sum. -/
theorem tri_sum {n : ℕ} (f : ℕ → EReal) (r : Fin n) :
    ∑ s : Fin n, (if s.val ≤ r.val then (1 : EReal) else 0) * f s.val = ∑ s ∈ Finset.range (r.val + 1), f s := by
  rw [Fin.sum_univ_eq_sum_range (fun s => (if s ≤ r.val then (1 : EReal) else 0) * f s) n]
  rw [← Finset.sum_subset (Finset.range_mono (show r.val + 1 ≤ n from r.isLt))]
  · refine Finset.sum_congr rfl fun s hs => ?_
    rw [if_pos (Nat.lt_succ_iff.mp (Finset.mem_range.mp hs)), one_mul]
  · intro s _ hs
    rw [if_neg (by simpa [Nat.lt_succ_iff] using hs), zero_mul]

/-- A product with ones on a subdiagonal is a shift. -/
theorem shift_sum {n : ℕ} (f : Fin n → EReal) (r : Fin n) (d : ℕ) (h : d ≤ r.val) :
    ∑ s : Fin n, (if s.val + d = r.val then (1 : EReal) else 0) * f s = f ⟨r.val - d, by omega⟩ := by
  rw [Finset.sum_eq_single (⟨r.val - d, by omega⟩ : Fin n)]
  · rw [if_pos (by simp; omega), one_mul]
  · intro s _ hs
    rw [if_neg (fun h' => hs (Fin.ext (by simp; omega))), zero_mul]
  · intro h'; exact absurd (Finset.mem_univ _) h'

/-- The state over a chunk is the recurrence from the state at the chunk's start. -/
theorem state_add (P : Par) (X : ℕ → Fin 1024 → EReal) (T : ℕ) (j : Fin 1536) :
    ∀ n, state P X (T + n) j = recur (fun s => logDecay P X (T + s) j) (fun s => drive P X (T + s) j) (state P X T j) n
  | 0 => rfl
  | n + 1 => by rw [recur, ← state_add P X T j n]; rfl

/-- A lag read across a chunk's start. -/
theorem lag_add (P : Par) (X : ℕ → Fin 1024 → EReal) (T r d : ℕ) (j : Fin 1536) (h : r ≤ d) :
    lag P X (T + r) d j = lag P X T (d - r) j := by
  unfold lag
  by_cases h' : T < d - r
  · rw [if_pos h', if_pos (by omega)]
  · rw [if_neg h', if_neg (by omega), show T + r - d = T - (d - r) by omega]

/-- A lag read inside a chunk. -/
theorem lag_add' (P : Par) (X : ℕ → Fin 1024 → EReal) (T r d : ℕ) (j : Fin 1536) (h : d ≤ r) :
    lag P X (T + r) d j = val P X (T + (r - d)) j := by
  unfold lag
  rw [if_neg (by omega), show T + r - d = T + (r - d) by omega]

end Cert.Spec

end
-- ==== Proof.KernelIdeal.HawkPays.lean ====
module

public import proofs.«01_k».proof.Proof.Gen.KernelIdeal.Skeleton
public import proofs.«01_k».proof.Proof.Math.Scan
public import Idealize.ShloMosaic.Lib.Pointwise
public import Idealize.ShloMosaic.Lib.WordCmp

@[expose] public section

set_option maxRecDepth 16384

noncomputable section

/-! # One block of the recurrent half

The values the body of the first call stores for one sequence of its pair, named as functions of what the body loads, and what
they are at the extended reals. -/

namespace Cert.KernelIdeal.Hand

open Cert.KernelIdeal Cert.KernelIdeal.Gen Idealize.ShloMosaic Cert.Spec

/-- What the body loads for one sequence. -/
structure HawkIn (F : FTy → Type) where
  x : Vec F S1x256x1024 .f32
  g : Vec F S1x1024 .f32
  w : Vec F S1024x3072 .bf16
  tl : Vec F S3x1536 .f32
  c3 : Vec F S1x1536 .f32
  c2 : Vec F S1x1536 .f32
  c1 : Vec F S1x1536 .f32
  c0 : Vec F S1x1536 .f32
  cb : Vec F S1x1536 .f32
  wg : Vec F S1536x3072 .bf16
  bg : Vec F S1x3072 .f32
  fb : Vec F S1x1536 .f32
  h : Vec F S1x1536 .f32
  wo : Vec F S1536x1024 .bf16

section Names

variable {F : FTy → Type} [FloatOps F] (a : HawkIn F)

/-- The convolution's channels, and the gate's. -/
def HawkIn.v0 : FVec F S256x1536 .f32 := k0_pay14 (k0_pay9 a.x) (k0_pay10 a.g) (k0_pay11 a.x) a.w
/-- The gate of the recurrence's output. -/
def HawkIn.gt : FVec F S256x1536 .f32 := k0_pay13 (k0_pay9 a.x) (k0_pay10 a.g) (k0_pay11 a.x) a.w

/-- The channels one, two and three steps ago. -/
def HawkIn.v1 : FVec F S256x1536 .f32 := k0_pay16 k0_pay6 (k0_pay9 a.x) (k0_pay10 a.g) (k0_pay11 a.x) a.w a.tl
/-- The convolution's input two steps back. -/
def HawkIn.v2 : FVec F S256x1536 .f32 := k0_pay17 k0_pay7 (k0_pay9 a.x) (k0_pay10 a.g) (k0_pay11 a.x) a.w a.tl
/-- The convolution's input three steps back. -/
def HawkIn.v3 : FVec F S256x1536 .f32 := k0_pay18 k0_pay8 (k0_pay9 a.x) (k0_pay10 a.g) (k0_pay11 a.x) a.w a.tl

/-- The convolution, the input gate's argument and the decay's logarithm. -/
def HawkIn.cv : FVec F S256x1536 .f32 := k0_pay20 a.v0 a.v1 a.v2 a.v3 a.c3 a.c2 a.c1 a.c0 a.cb
/-- The input gates, before the sigmoid. -/
def HawkIn.ig : FVec F S256x1536 .f32 := k0_pay22 a.v0 a.v1 a.v2 a.v3 a.c3 a.c2 a.c1 a.c0 a.cb a.wg a.bg
/-- The logarithms of the decays. -/
def HawkIn.la : FVec F S256x1536 .f32 := k0_pay23 a.v0 a.v1 a.v2 a.v3 a.c3 a.c2 a.c1 a.c0 a.cb a.wg a.bg a.fb

/-- The states of the chunk. -/
def HawkIn.hs : FVec F S256x1536 .f32 := k0_pay25 k0_pay5 a.cv a.ig a.la k0_pay24 a.h

/-- The three stored values: the output block, the last three rows of the channels, the last state. -/
def HawkIn.out : FVec F S1x256x1024 .f32 := k0_pay29 (k0_pay9 a.x) (k0_pay27 k0_pay5 a.gt a.cv a.ig a.la k0_pay24 a.h) (k0_pay28 a.wo)
/-- The convolution's last three input rows, kept for the next chunk. -/
def HawkIn.tail : FVec F S3x1536 .f32 := k0_pay19 (k0_pay9 a.x) (k0_pay10 a.g) (k0_pay11 a.x) a.w
/-- The last state, kept for the next chunk. -/
def HawkIn.last : FVec F S1x1536 .f32 := k0_pay26 k0_pay5 a.cv a.ig a.la k0_pay24 a.h

end Names

/-- What the loaded values are: rows `T`, …, `T + 255` of a sequence, the parameters, and what the chunks before left. -/
structure HawkIn.Of (a : HawkIn Ideal) (P : Par) (X : ℕ → Fin 1024 → EReal) (T : ℕ) : Prop where
  x : ∀ (r : Fin 256) (k : Fin 1024), a.x (ix3 0 r k) = X (T + r.val) k
  g : ∀ k : Fin 1024, a.g (ix2 0 k) = P.gam k
  w : ∀ (k : Fin 1024) (o : Fin 3072), a.w (ix2 k o) = P.win o k
  tl : ∀ (i : Fin 3) (j : Fin 1536), a.tl (ix2 i j) = lag P X T (3 - i.val) j
  c3 : ∀ j : Fin 1536, a.c3 (ix2 0 j) = P.cw j 3
  c2 : ∀ j : Fin 1536, a.c2 (ix2 0 j) = P.cw j 2
  c1 : ∀ j : Fin 1536, a.c1 (ix2 0 j) = P.cw j 1
  c0 : ∀ j : Fin 1536, a.c0 (ix2 0 j) = P.cw j 0
  cb : ∀ j : Fin 1536, a.cb (ix2 0 j) = P.cb j
  wg : ∀ (k : Fin 1536) (o : Fin 3072), a.wg (ix2 k o) = P.wg o k
  bg : ∀ o : Fin 3072, a.bg (ix2 0 o) = P.bg o
  fb : ∀ j : Fin 1536, a.fb (ix2 0 j) = P.fb j
  h : ∀ j : Fin 1536, a.h (ix2 0 j) = state P X T j
  wo : ∀ (j : Fin 1536) (k : Fin 1024), a.wo (ix2 j k) = P.wo k j

/-- Comparing two row numbers as words compares them as numbers. -/
theorem sel_sge (r s : Fin 256) :
    Scalar.select (IntOp.cmpi CmpIPredicate.sge (BitVec.ofNat 32 r.val) (BitVec.ofNat 32 s.val)) (1 : EReal) 0 = if s.val ≤ r.val then 1 else 0 := by
  rw [WordCmp.cmpi_sge_ofNat (by have := r.isLt; norm_num; omega) (by have := s.isLt; norm_num; omega)]
  by_cases h : s.val ≤ r.val <;> simp [h, Scalar.select]

/-- One where the row number exceeds the column number by the shift, zero elsewhere. -/
theorem sel_eq (r s : Fin 256) (d : ℕ) (hd : d < 256) :
    Scalar.select (IntOp.cmpi CmpIPredicate.eq (BitVec.ofNat 32 r.val - BitVec.ofNat 32 s.val) (BitVec.ofNat 32 d)) (1 : EReal) 0
      = if s.val + d = r.val then 1 else 0 := by
  have hiff : BitVec.ofNat 32 r.val - BitVec.ofNat 32 s.val = BitVec.ofNat 32 d ↔ s.val + d = r.val := by
    have hr := r.isLt
    have hs := s.isLt
    rw [← BitVec.toNat_inj]
    simp only [BitVec.toNat_sub, BitVec.toNat_ofNat]
    omega
  rw [WordCmp.cmpi_eq_eq]
  by_cases h : s.val + d = r.val
  · rw [if_pos h, decide_eq_true (hiff.mpr h)]; rfl
  · rw [if_neg h, decide_eq_false (fun h' => h (hiff.mp h'))]; rfl

/-- The lower triangular matrix of ones. -/
theorem pay5_at (r s : Fin 256) : k0_pay5 (F := Ideal) (ix2 r s) = if s.val ≤ r.val then 1 else 0 := by
  pointwise [k0_pay5]
  exact sel_sge r s

/-- The matrix that shifts by one row. -/
theorem pay6_at (r s : Fin 256) : k0_pay6 (F := Ideal) (ix2 r s) = if s.val + 1 = r.val then 1 else 0 := by
  pointwise [k0_pay6]
  exact sel_eq r s 1 (by norm_num)

/-- The matrix that shifts by two rows. -/
theorem pay7_at (r s : Fin 256) : k0_pay7 (F := Ideal) (ix2 r s) = if s.val + 2 = r.val then 1 else 0 := by
  pointwise [k0_pay7]
  exact sel_eq r s 2 (by norm_num)

/-- The matrix that shifts by three rows. -/
theorem pay8_at (r s : Fin 256) : k0_pay8 (F := Ideal) (ix2 r s) = if s.val + 3 = r.val then 1 else 0 := by
  pointwise [k0_pay8]
  exact sel_eq r s 3 (by norm_num)

/-- The sum of a row's squares. -/
theorem pay11_at (x : Vec Ideal S1x256x1024 .f32) (r : Fin 256) :
    k0_pay11 (F := Ideal) x (ix2 r 0) = ∑ k, x (ix3 0 r k) * x (ix3 0 r k) := by
  pointwise [k0_pay11, k0_pay9]

section Block

variable {a : HawkIn Ideal} {P : Par} {X : ℕ → Fin 1024 → EReal} {T : ℕ} (H : a.Of P X T)
include H

/-- The upper half of the projection, spelled with the loads. -/
theorem v0_raw (r : Fin 256) (j : Fin 1536) :
    k0_pay14 (k0_pay9 a.x) (k0_pay10 a.g) (k0_pay11 a.x) a.w (ix2 r j) = val P X (T + r.val) j := by
  pointwise [k0_pay14, k0_pay12, k0_pay9, k0_pay10]
  simp only [pay11_at, H.x, H.g, H.w, ofBits_32]
  unfold Cert.Spec.val proj normed
  refine Finset.sum_congr rfl fun k _ => ?_
  congr 2
  exact Fin.ext (Nat.add_comm _ _)

/-- The chunk's convolution input. -/
theorem v0_at (r : Fin 256) (j : Fin 1536) : a.v0 (ix2 r j) = val P X (T + r.val) j := v0_raw H r j

/-- The chunk's gate. -/
theorem gt_at (r : Fin 256) (j : Fin 1536) : a.gt (ix2 r j) = gate P X (T + r.val) j := by
  unfold HawkIn.gt
  pointwise [k0_pay13, k0_pay12, k0_pay9, k0_pay10]
  simp only [pay11_at, H.x, H.g, H.w, ofBits_32]
  rfl

/-- The convolution's input one step back, from this chunk or the last one's tail. -/
theorem v1_at (r : Fin 256) (j : Fin 1536) : a.v1 (ix2 r j) = lag P X (T + r.val) 1 j := by
  unfold HawkIn.v1
  pointwise [k0_pay16, k0_pay15]
  simp only [v0_raw H, H.tl, pay6_at]
  by_cases h1 : r.val < 8
  · refine (dif_pos h1).trans ?_
    by_cases h2 : r.val < 1
    · refine (dif_pos h2).trans ?_
      rw [lag_add P X T r.val 1 j (by omega)]
      congr 1
      try omega
    · refine (dif_neg h2).trans ?_
      rw [lag_add' P X T r.val 1 j (by omega)]
  · refine (dif_neg h1).trans ?_
    rw [lag_add' P X T r.val 1 j (by omega)]
    refine Eq.trans (Finset.sum_congr rfl fun s _ => ?_) (shift_sum (fun s : Fin 256 => val P X (T + s.val) j) r 1 (by omega))
    exact congrArg (· * _) (if_congr (by omega) rfl rfl)

/-- The convolution's input two steps back. -/
theorem v2_at (r : Fin 256) (j : Fin 1536) : a.v2 (ix2 r j) = lag P X (T + r.val) 2 j := by
  unfold HawkIn.v2
  pointwise [k0_pay17, k0_pay15]
  simp only [v0_raw H, H.tl, pay7_at]
  by_cases h1 : r.val < 8
  · refine (dif_pos h1).trans ?_
    by_cases h2 : r.val < 2
    · refine (dif_pos h2).trans ?_
      rw [lag_add P X T r.val 2 j (by omega)]
      congr 1
      try omega
    · refine (dif_neg h2).trans ?_
      rw [lag_add' P X T r.val 2 j (by omega)]
  · refine (dif_neg h1).trans ?_
    rw [lag_add' P X T r.val 2 j (by omega)]
    refine Eq.trans (Finset.sum_congr rfl fun s _ => ?_) (shift_sum (fun s : Fin 256 => val P X (T + s.val) j) r 2 (by omega))
    exact congrArg (· * _) (if_congr (by omega) rfl rfl)

/-- The convolution's input three steps back. -/
theorem v3_at (r : Fin 256) (j : Fin 1536) : a.v3 (ix2 r j) = lag P X (T + r.val) 3 j := by
  unfold HawkIn.v3
  pointwise [k0_pay18, k0_pay15]
  simp only [v0_raw H, H.tl, pay8_at]
  by_cases h1 : r.val < 8
  · refine (dif_pos h1).trans ?_
    by_cases h2 : r.val < 3
    · refine (dif_pos h2).trans ?_
      rw [lag_add P X T r.val 3 j (by omega)]
    · refine (dif_neg h2).trans ?_
      rw [lag_add' P X T r.val 3 j (by omega)]
  · refine (dif_neg h1).trans ?_
    rw [lag_add' P X T r.val 3 j (by omega)]
    refine Eq.trans (Finset.sum_congr rfl fun s _ => ?_) (shift_sum (fun s : Fin 256 => val P X (T + s.val) j) r 3 (by omega))
    exact congrArg (· * _) (if_congr (by omega) rfl rfl)

/-- The convolution as the body spells it. -/
theorem cv_raw (r : Fin 256) (j : Fin 1536) :
    k0_pay20 a.v0 a.v1 a.v2 a.v3 a.c3 a.c2 a.c1 a.c0 a.cb (ix2 r j) = conv P X (T + r.val) j := by
  pointwise [k0_pay20]
  simp only [v0_at H, v1_at H, v2_at H, v3_at H, H.c3, H.c2, H.c1, H.c0, H.cb]
  rfl

/-- The chunk's convolution. -/
theorem cv_at (r : Fin 256) (j : Fin 1536) : a.cv (ix2 r j) = conv P X (T + r.val) j := cv_raw H r j

/-- The gates are a dot with the convolution, and a bias. -/
theorem gates_at (r : Fin 256) (o : Fin 3072) :
    k0_pay21 a.v0 a.v1 a.v2 a.v3 a.c3 a.c2 a.c1 a.c0 a.cb a.wg a.bg (ix2 r o) = gates P X (T + r.val) o := by
  pointwise [k0_pay21]
  simp only [cv_raw H, H.wg, H.bg]
  rfl

/-- The chunk's input gates. -/
theorem ig_at (r : Fin 256) (j : Fin 1536) : a.ig (ix2 r j) = gates P X (T + r.val) (hi1536 j) := by
  unfold HawkIn.ig
  pointwise [k0_pay22]
  simp only [gates_at H]
  congr 1
  exact Fin.ext (Nat.add_comm _ _)

/-- The chunk's logarithms of the decays. -/
theorem la_at (r : Fin 256) (j : Fin 1536) : a.la (ix2 r j) = logDecay P X (T + r.val) j := by
  unfold HawkIn.la
  pointwise [k0_pay23]
  simp only [gates_at H, H.fb]
  rfl

/-- The states as the body spells them, by cumulative sums. -/
theorem hs_raw (hf : ∀ j, P.fb j < ⊤) (r : Fin 256) (j : Fin 1536) :
    k0_pay25 k0_pay5 a.cv a.ig a.la k0_pay24 a.h (ix2 r j) = state P X (T + r.val + 1) j := by
  pointwise [k0_pay25, k0_pay24]
  simp only [la_at H, ig_at H, cv_at H, pay5_at, H.h, ofBits_2]
  obtain ⟨l, hl⟩ := Classical.skolem.mp fun t => logDecay_real P X t j (hf j)
  rw [tri_sum (fun s => logDecay P X (T + s) j) r,
    show T + r.val + 1 = T + (r.val + 1) from rfl, state_add P X T j (r.val + 1)]
  simp only [hl]
  rw [← chunk (fun s => l (T + s)) (fun s => drive P X (T + s) j) (state P X T j) r.val]
  congr 2
  rw [← tri_sum (fun s => Ideal.div (drive P X (T + s) j) (Ideal.exp (∑ u ∈ Finset.range (s + 1), ((l (T + u) : ℝ) : EReal)))) r]
  refine Finset.sum_congr rfl fun s _ => ?_
  rw [tri_sum (fun s => ((l (T + s) : ℝ) : EReal)) s]
  unfold drive
  rw [hl]

/-- The chunk's states are the recurrence's. -/
theorem hs_at (hf : ∀ j, P.fb j < ⊤) (r : Fin 256) (j : Fin 1536) : a.hs (ix2 r j) = state P X (T + r.val + 1) j := hs_raw H hf r j

/-- The chunk's output rows are the mixed rows. -/
theorem out_at (hf : ∀ j, P.fb j < ⊤) (r : Fin 256) (k : Fin 1024) : a.out (ix3 0 r k) = mixed P X (T + r.val) k := by
  unfold HawkIn.out
  pointwise [k0_pay29, k0_pay28, k0_pay27, k0_pay9]
  simp only [hs_raw H hf, gt_at H, H.x, H.wo]
  rfl

/-- The kept tail is what the next chunk looks back to. -/
theorem tail_at (i : Fin 3) (j : Fin 1536) : a.tail (ix2 i j) = lag P X (T + 256) (3 - i.val) j := by
  unfold HawkIn.tail
  rw [lag_add' P X T 256 (3 - i.val) j (by omega), show 256 - (3 - i.val) = 253 + i.val by omega]
  refine Eq.trans ?_ (v0_raw H ⟨253 + i.val, by omega⟩ j)
  generalize hv : k0_pay14 (k0_pay9 a.x) (k0_pay10 a.g) (k0_pay11 a.x) a.w = v
  unfold k0_pay19
  rw [hv]
  pointwise

/-- The kept state is where the next chunk starts. -/
theorem last_at (hf : ∀ j, P.fb j < ⊤) (j : Fin 1536) : a.last (ix2 0 j) = state P X (T + 256) j := by
  unfold HawkIn.last
  refine Eq.trans ?_ (hs_raw H hf 255 j)
  generalize hv : k0_pay25 k0_pay5 a.cv a.ig a.la k0_pay24 a.h = v
  unfold k0_pay26
  rw [hv]
  pointwise

end Block

end Cert.KernelIdeal.Hand
-- ==== Proof.KernelIdeal.HawkPieces.lean ====
module

public import proofs.«01_k».proof.Proof.KernelIdeal.Region0
public import proofs.«01_k».proof.Proof.KernelIdeal.HawkPays
import all proofs.«01_k».proof.Proof.KernelIdeal.RunA
import all proofs.«01_k».proof.Proof.KernelIdeal.RunB

@[expose] public section

set_option maxRecDepth 16384

noncomputable section

/-! # What the first call's body stores, piece by piece

The body works its pair's two sequences one after the other with the same operations; the second's values are the same functions
(`HawkIn`) of what is loaded for it. -/

namespace Cert.KernelIdeal.Hand

open Idealize.ShloMosaic Idealize.ShloMosaic.TcCoe Cert.KernelIdeal Cert.KernelIdeal.Gen

variable {F : FTy → Type} [FloatOps F]

section Second

variable (a : HawkIn F)

/-- The second sequence's convolution and input, in the body's own cut of the operations. -/
def HawkIn.cv' : FVec F S256x1536 .f32 :=
  k0_pay40 k0_pay7 k0_pay8 (k0_pay33 a.x a.g a.w) (k0_pay34 a.x a.g a.w) (k0_pay35 a.x a.g a.w a.tl) (k0_pay36 a.x a.g a.w a.tl)
    (k0_pay37 a.x a.g a.w a.tl) (k0_pay38 k0_pay6 a.x a.g a.w) a.c3 a.c2 a.c1 a.c0 a.cb
/-- The second sequence's convolution, as its half of the body spells it. -/
def HawkIn.cvb' : FVec F S256x1536 .bf16 :=
  k0_pay41 k0_pay7 k0_pay8 (k0_pay33 a.x a.g a.w) (k0_pay34 a.x a.g a.w) (k0_pay35 a.x a.g a.w a.tl) (k0_pay36 a.x a.g a.w a.tl)
    (k0_pay37 a.x a.g a.w a.tl) (k0_pay38 k0_pay6 a.x a.g a.w) a.c3 a.c2 a.c1 a.c0 a.cb

/-- Its output, tail and last state, likewise. -/
def HawkIn.out' : FVec F S1x256x1024 .f32 :=
  k0_pay2 (k0_pay30 a.x) (k0_pay32 a.x a.g a.w) (k0_pay43 k0_pay5 a.cv' a.cvb' (k0_pay42 a.wg) (constant S256x3072 .f32 0x00000000#32) a.bg a.fb a.h) a.wo
/-- The second sequence's kept tail, as its half spells it. -/
def HawkIn.tail' : FVec F S3x1536 .f32 := k0_pay39 (k0_pay33 a.x a.g a.w)
/-- The second sequence's kept state, as its half spells it. -/
def HawkIn.last' : FVec F S1x1536 .f32 :=
  k0_pay1 (k0_pay44 k0_pay5 a.cv' a.cvb' (k0_pay42 a.wg) (constant S256x3072 .f32 0x00000000#32) a.bg a.fb a.h)

/-- Both halves of the body compute the same output of their loads. -/
theorem second_out : a.out' = a.out := rfl
/-- Both halves keep the same tail. -/
theorem second_tail : a.tail' = a.tail := rfl
/-- Both halves keep the same state. -/
theorem second_last : a.last' = a.last := rfl

end Second

section Pieces

variable (V : (c : Dev nD) → (b : Ref sig .tc) → Buf (Elt F) ((c : Thread nD τ).loc b))

/-- What the body loads of the windows' blocks, for a sequence's own rows `x`, tail `tl` and state `h`. -/
def loads (c : Dev nD) (t : Fin cfg0.N) (x : Vec F S1x256x1024 .f32) (tl : Vec F S3x1536 .f32) (h : Vec F S1x1536 .f32) : HawkIn F where
  x := x
  g := View.readAt (Elt F) (ms0_1 t).view (Rect.unit (s := S1x1024) ![0, 0] S1x1024.size inb_S1x1024_S1x1024_0_0).toLoadRect ((hs0_1 t).unread (iblk0 V c 1 t))
  w := View.readAt (Elt F) (ms0_2 t).view (Rect.unit (s := S1024x3072) ![0, 0] S1024x3072.size inb_S1024x3072_S1024x3072_0_0).toLoadRect ((hs0_2 t).unread (iblk0 V c 2 t))
  tl := tl
  c3 := View.readAt (Elt F) (ms0_3 t).view (Rect.unit (s := S8x1536) ![3, 0] S1x1536.size inb_S8x1536_S1x1536_3_0).toLoadRect ((hs0_3 t).unread (iblk0 V c 3 t))
  c2 := View.readAt (Elt F) (ms0_3 t).view (Rect.unit (s := S8x1536) ![2, 0] S1x1536.size inb_S8x1536_S1x1536_2_0).toLoadRect ((hs0_3 t).unread (iblk0 V c 3 t))
  c1 := View.readAt (Elt F) (ms0_3 t).view (Rect.unit (s := S8x1536) ![1, 0] S1x1536.size inb_S8x1536_S1x1536_1_0).toLoadRect ((hs0_3 t).unread (iblk0 V c 3 t))
  c0 := View.readAt (Elt F) (ms0_3 t).view (Rect.unit (s := S8x1536) ![0, 0] S1x1536.size inb_S8x1536_S1x1536_0_0).toLoadRect ((hs0_3 t).unread (iblk0 V c 3 t))
  cb := View.readAt (Elt F) (ms0_4 t).view (Rect.unit (s := S1x1536) ![0, 0] S1x1536.size inb_S1x1536_S1x1536_0_0).toLoadRect ((hs0_4 t).unread (iblk0 V c 4 t))
  wg := View.readAt (Elt F) (ms0_5 t).view (Rect.unit (s := S1536x3072) ![0, 0] S1536x3072.size inb_S1536x3072_S1536x3072_0_0).toLoadRect ((hs0_5 t).unread (iblk0 V c 5 t))
  bg := View.readAt (Elt F) (ms0_6 t).view (Rect.unit (s := S1x3072) ![0, 0] S1x3072.size inb_S1x3072_S1x3072_0_0).toLoadRect ((hs0_6 t).unread (iblk0 V c 6 t))
  fb := View.readAt (Elt F) (ms0_7 t).view (Rect.unit (s := S1x1536) ![0, 0] S1x1536.size inb_S1x1536_S1x1536_0_0).toLoadRect ((hs0_7 t).unread (iblk0 V c 7 t))
  h := h
  wo := View.readAt (Elt F) (ms0_8 t).view (Rect.unit (s := S1536x1024) ![0, 0] S1536x1024.size inb_S1536x1024_S1536x1024_0_0).toLoadRect ((hs0_8 t).unread (iblk0 V c 8 t))

/-- The rows of the two sequences. -/
def rows0 (c : Dev nD) (t : Fin cfg0.N) : Vec F S1x256x1024 .f32 :=
  View.readAt (Elt F) (ms0_0 t).view (Rect.unit (s := S2x256x1024) ![0, 0, 0] S1x256x1024.size inb_S2x256x1024_S1x256x1024_0_0_0).toLoadRect ((hs0_0 t).unread (iblk0 V c 0 t))
/-- The rows of the second sequence. -/
def rows1 (c : Dev nD) (t : Fin cfg0.N) : Vec F S1x256x1024 .f32 :=
  View.readAt (Elt F) (ms0_0 t).view (Rect.unit (s := S2x256x1024) ![1, 0, 0] S1x256x1024.size inb_S2x256x1024_S1x256x1024_1_0_0).toLoadRect ((hs0_0 t).unread (iblk0 V c 0 t))

/-- A plane of the scratch is one deep. -/
theorem one_1x8 : (![1, 8, 1536] : Fin 3 → ℕ) 0 = 1 := rfl
/-- A plane of the scratch has the remaining axes of the whole. -/
theorem succ_1x8 : ∀ i : Fin 2, (![1, 8, 1536] : Fin 3 → ℕ) i.succ = (![8, 1536] : Fin 2 → ℕ) i := by decide

/-- Where the tails and the states lie in their scratch: rows 5, 6, 7 and row 0 of the sequence's plane. -/
abbrev plane0 : Rect S2x8x1536 := Rect.unit (s := S2x8x1536) ![0, 0, 0] S1x8x1536.size inb_S2x8x1536_S1x8x1536_0_0_0
/-- The second sequence's plane of the scratch. -/
abbrev plane1 : Rect S2x8x1536 := Rect.unit (s := S2x8x1536) ![1, 0, 0] S1x8x1536.size inb_S2x8x1536_S1x8x1536_1_0_0
/-- Rows 5, 6 and 7 of a plane, where the tail is kept. -/
abbrev tailRows : Rect S8x1536 := Rect.unit (s := S8x1536) ![5, 0] S3x1536.size inb_S8x1536_S3x1536_5_0
/-- Row 0 of a plane, where the state is kept. -/
abbrev lastRow : Rect S8x1536 := Rect.unit (s := S8x1536) ![0, 0] S1x1536.size inb_S8x1536_S1x1536_0_0
/-- Where the first sequence's tail is stored. -/
abbrev tailAt0 : Rect S2x8x1536 := plane0.within (tailRows.consLift ![1, 8, 1536] one_1x8 succ_1x8) (fun _ => rfl)
/-- Where the second sequence's tail is stored. -/
abbrev tailAt1 : Rect S2x8x1536 := plane1.within (tailRows.consLift ![1, 8, 1536] one_1x8 succ_1x8) (fun _ => rfl)
/-- Where the first sequence's state is stored. -/
abbrev lastAt0 : Rect S2x8x1536 := plane0.within (lastRow.consLift ![1, 8, 1536] one_1x8 succ_1x8) (fun _ => rfl)
/-- Where the second sequence's state is stored. -/
abbrev lastAt1 : Rect S2x8x1536 := plane1.within (lastRow.consLift ![1, 8, 1536] one_1x8 succ_1x8) (fun _ => rfl)
/-- Where the first sequence's tail is loaded. -/
abbrev tailLd0 : LoadRect S2x8x1536 := plane0.withinL (tailRows.toLoadRect.consLift ![1, 8, 1536] one_1x8 succ_1x8) (fun _ => rfl)
/-- Where the second sequence's tail is loaded. -/
abbrev tailLd1 : LoadRect S2x8x1536 := plane1.withinL (tailRows.toLoadRect.consLift ![1, 8, 1536] one_1x8 succ_1x8) (fun _ => rfl)
/-- Where the first sequence's state is loaded. -/
abbrev lastLd0 : LoadRect S2x8x1536 := plane0.withinL (lastRow.toLoadRect.consLift ![1, 8, 1536] one_1x8 succ_1x8) (fun _ => rfl)
/-- Where the second sequence's state is loaded. -/
abbrev lastLd1 : LoadRect S2x8x1536 := plane1.withinL (lastRow.toLoadRect.consLift ![1, 8, 1536] one_1x8 succ_1x8) (fun _ => rfl)

/-- A tail has as many entries in its plane as in the whole scratch, when loaded. -/
theorem tail_numel : tailRows.toLoadRect.shape.numel = (tailRows.toLoadRect.consLift ![1, 8, 1536] one_1x8 succ_1x8).shape.numel := LoadRect.numel_consLift ..
/-- A state has as many entries in its plane as in the whole scratch, when loaded. -/
theorem last_numel : lastRow.toLoadRect.shape.numel = (lastRow.toLoadRect.consLift ![1, 8, 1536] one_1x8 succ_1x8).shape.numel := LoadRect.numel_consLift ..
/-- A tail has as many entries in its plane as in the whole scratch, when stored. -/
theorem tail_numel' : (tailRows.consLift ![1, 8, 1536] one_1x8 succ_1x8).shape.numel = tailRows.shape.numel := Rect.numel_consLift ..
/-- A state has as many entries in its plane as in the whole scratch, when stored. -/
theorem last_numel' : (lastRow.consLift ![1, 8, 1536] one_1x8 succ_1x8).shape.numel = lastRow.shape.numel := Rect.numel_consLift ..

section B

variable (c : Dev nD) (t : Fin cfg0.N) (h0 : ¬t.val % 8 = 0) (xs0 xs1 : Vec F S2x8x1536 .f32)

/-- A later chunk's loads: its tails and states are what the scratch holds. -/
def loadsB0 : HawkIn F := loads V c t (rows0 V c t)
  (LoadRect.valAlong tail_numel (View.readAt (Elt F) scM0_0.view tailLd0 ((Memref.isWhole_whole _ : scM0_0.IsWhole).unread xs0)))
  (LoadRect.valAlong last_numel (View.readAt (Elt F) scM0_1.view lastLd0 ((Memref.isWhole_whole _ : scM0_1.IsWhole).unread xs1)))
/-- The same of the second sequence. -/
def loadsB1 : HawkIn F := loads V c t (rows1 V c t)
  (LoadRect.valAlong tail_numel (View.readAt (Elt F) scM0_0.view tailLd1 ((Memref.isWhole_whole _ : scM0_0.IsWhole).unread xs0)))
  (LoadRect.valAlong last_numel (View.readAt (Elt F) scM0_1.view lastLd1 ((Memref.isWhole_whole _ : scM0_1.IsWhole).unread xs1)))

/-- A later chunk's stores to the output, each half in its own spelling. -/
theorem runB_out' : (runB V c t h0 xs0 xs1).1
    = [⟨Rect.unit (s := S2x256x1024) ![1, 0, 0] S1x256x1024.size inb_S2x256x1024_S1x256x1024_1_0_0, (loadsB1 V c t xs0 xs1).out'⟩,
       ⟨Rect.unit (s := S2x256x1024) ![0, 0, 0] S1x256x1024.size inb_S2x256x1024_S1x256x1024_0_0_0, (loadsB0 V c t xs0 xs1).out⟩] := by
  sl_kernel_rfl

/-- A later chunk stores the two sequences' outputs. -/
theorem runB_out : (runB V c t h0 xs0 xs1).1
    = [⟨Rect.unit (s := S2x256x1024) ![1, 0, 0] S1x256x1024.size inb_S2x256x1024_S1x256x1024_1_0_0, (loadsB1 V c t xs0 xs1).out⟩,
       ⟨Rect.unit (s := S2x256x1024) ![0, 0, 0] S1x256x1024.size inb_S2x256x1024_S1x256x1024_0_0_0, (loadsB0 V c t xs0 xs1).out⟩] := by
  rw [runB_out', second_out]

/-- A later chunk's stores of tails, each half in its own spelling. -/
theorem runB_tail' : (runB V c t h0 xs0 xs1).2.1
    = [⟨tailAt1, Rect.payAlong tail_numel' (loadsB1 V c t xs0 xs1).tail'⟩, ⟨tailAt0, Rect.payAlong tail_numel' (loadsB0 V c t xs0 xs1).tail⟩] := by
  sl_kernel_rfl

/-- A later chunk stores the two sequences' tails. -/
theorem runB_tail : (runB V c t h0 xs0 xs1).2.1
    = [⟨tailAt1, Rect.payAlong tail_numel' (loadsB1 V c t xs0 xs1).tail⟩, ⟨tailAt0, Rect.payAlong tail_numel' (loadsB0 V c t xs0 xs1).tail⟩] := by
  rw [runB_tail', second_tail]

/-- A later chunk's stores of states, each half in its own spelling. -/
theorem runB_last' : (runB V c t h0 xs0 xs1).2.2.1
    = [⟨lastAt1, Rect.payAlong last_numel' (loadsB1 V c t xs0 xs1).last'⟩, ⟨lastAt0, Rect.payAlong last_numel' (loadsB0 V c t xs0 xs1).last⟩] := by
  sl_kernel_rfl

/-- A later chunk stores the two sequences' states. -/
theorem runB_last : (runB V c t h0 xs0 xs1).2.2.1
    = [⟨lastAt1, Rect.payAlong last_numel' (loadsB1 V c t xs0 xs1).last⟩, ⟨lastAt0, Rect.payAlong last_numel' (loadsB0 V c t xs0 xs1).last⟩] := by
  rw [runB_last', second_last]

end B

section A

variable (c : Dev nD) (t : Fin cfg0.N) (h0 : t.val % 8 = 0)

/-- The store that clears the tails. -/
abbrev zero0 : View.Piece (Elt F) S2x8x1536 .f32 := ⟨Rect.unit (s := S2x8x1536) ![0, 0, 0] S2x8x1536.size inb_S2x8x1536_S2x8x1536_0_0_0, k0_pay3⟩
/-- The store that clears the states. -/
abbrev zero1 : View.Piece (Elt F) S2x8x1536 .f32 := ⟨Rect.unit (s := S2x8x1536) ![0, 0, 0] S2x8x1536.size inb_S2x8x1536_S2x8x1536_0_0_0, k0_pay4⟩

/-- A first chunk's loads: its tails and states are read back from the zeros just stored. -/
def loadsA0 : HawkIn F := loads V c t (rows0 V c t)
  (LoadRect.valAlong tail_numel (scM0_0.view.readCov [zero0] tailLd0))
  (LoadRect.valAlong last_numel (scM0_1.view.readCov [zero1] lastLd0))
/-- The same of the second sequence, whose reads also pass over the first one's stores. -/
def loadsA1 : HawkIn F := loads V c t (rows1 V c t)
  (LoadRect.valAlong tail_numel (scM0_0.view.readCov [⟨tailAt0, Rect.payAlong tail_numel' (loadsA0 V c t).tail⟩, zero0] tailLd1))
  (LoadRect.valAlong last_numel (scM0_1.view.readCov [⟨lastAt0, Rect.payAlong last_numel' (loadsA0 V c t).last⟩, zero1] lastLd1))

/-- A first chunk's stores to the output, each half in its own spelling. -/
theorem runA_out' : (runA V c t h0).1
    = [⟨Rect.unit (s := S2x256x1024) ![1, 0, 0] S1x256x1024.size inb_S2x256x1024_S1x256x1024_1_0_0, (loadsA1 V c t).out'⟩,
       ⟨Rect.unit (s := S2x256x1024) ![0, 0, 0] S1x256x1024.size inb_S2x256x1024_S1x256x1024_0_0_0, (loadsA0 V c t).out⟩] := by
  sl_kernel_rfl

/-- A first chunk stores the two sequences' outputs. -/
theorem runA_out : (runA V c t h0).1
    = [⟨Rect.unit (s := S2x256x1024) ![1, 0, 0] S1x256x1024.size inb_S2x256x1024_S1x256x1024_1_0_0, (loadsA1 V c t).out⟩,
       ⟨Rect.unit (s := S2x256x1024) ![0, 0, 0] S1x256x1024.size inb_S2x256x1024_S1x256x1024_0_0_0, (loadsA0 V c t).out⟩] := by
  rw [runA_out', second_out]

/-- A first chunk's stores of tails, each half in its own spelling. -/
theorem runA_tail' : (runA V c t h0).2.1
    = [⟨tailAt1, Rect.payAlong tail_numel' (loadsA1 V c t).tail'⟩, ⟨tailAt0, Rect.payAlong tail_numel' (loadsA0 V c t).tail⟩, zero0] := by
  sl_kernel_rfl

/-- A first chunk clears the tails and stores the two sequences' own. -/
theorem runA_tail : (runA V c t h0).2.1
    = [⟨tailAt1, Rect.payAlong tail_numel' (loadsA1 V c t).tail⟩, ⟨tailAt0, Rect.payAlong tail_numel' (loadsA0 V c t).tail⟩, zero0] := by
  rw [runA_tail', second_tail]

/-- A first chunk's stores of states, each half in its own spelling. -/
theorem runA_last' : (runA V c t h0).2.2.1
    = [⟨lastAt1, Rect.payAlong last_numel' (loadsA1 V c t).last'⟩, ⟨lastAt0, Rect.payAlong last_numel' (loadsA0 V c t).last⟩, zero1] := by
  sl_kernel_rfl

/-- A first chunk clears the states and stores the two sequences' own. -/
theorem runA_last : (runA V c t h0).2.2.1
    = [⟨lastAt1, Rect.payAlong last_numel' (loadsA1 V c t).last⟩, ⟨lastAt0, Rect.payAlong last_numel' (loadsA0 V c t).last⟩, zero1] := by
  rw [runA_last', second_last]

end A

end Pieces

end Cert.KernelIdeal.Hand
-- ==== Proof.KernelIdeal.HawkRead.lean ====
module

public import proofs.«01_k».proof.Proof.KernelIdeal.HawkPieces

@[expose] public section

set_option maxRecDepth 16384

noncomputable section

/-! # Reading what the first call's body loads and stores, at an index -/

namespace Cert.KernelIdeal.Hand

open Idealize.ShloMosaic Idealize.ShloMosaic.TcCoe Cert.KernelIdeal Cert.KernelIdeal.Gen

variable {F : FTy → Type} [FloatOps F]

/-- A load of a rectangle of a buffer that holds `X` reads `X` at the rectangle's place. -/
theorem ld2 {a b n0 n1 : ℕ} {e : EltTy} (m : Memref sig .tc .vmem ⟨2, ![a, b]⟩ e) (h : m.IsWhole) (X : (⟨2, ![a, b]⟩ : Shape).Idx → Elt F e)
    (o0 o1 : ℕ) (inb : ∀ x, (![o0, o1] : Fin 2 → ℕ) x + (![n0, n1] : Fin 2 → ℕ) x ≤ (⟨2, ![a, b]⟩ : Shape).size x)
    (i : Fin n0) (j : Fin n1) (i' : Fin a) (j' : Fin b) (hi : i'.val = o0 + i.val) (hj : j'.val = o1 + j.val) :
    View.readAt (Elt F) m.view (Rect.unit (s := ⟨2, ![a, b]⟩) ![o0, o1] ![n0, n1] inb).toLoadRect (h.unread X) (ix2 i j) = X (ix2 i' j') := by
  rw [View.readAt_apply, h.read_unread]
  refine congrArg X (funext fun x => Fin.ext ?_)
  match x with
  | ⟨0, _⟩ => show o0 + 1 * i.val = i'.val; omega
  | ⟨1, _⟩ => show o1 + 1 * j.val = j'.val; omega

/-- A load of a part of a three-axis buffer, at an index. -/
theorem ld3 {a b d n0 n1 n2 : ℕ} {e : EltTy} (m : Memref sig .tc .vmem ⟨3, ![a, b, d]⟩ e) (h : m.IsWhole) (X : (⟨3, ![a, b, d]⟩ : Shape).Idx → Elt F e)
    (o0 o1 o2 : ℕ) (inb : ∀ x, (![o0, o1, o2] : Fin 3 → ℕ) x + (![n0, n1, n2] : Fin 3 → ℕ) x ≤ (⟨3, ![a, b, d]⟩ : Shape).size x)
    (i : Fin n0) (j : Fin n1) (k : Fin n2) (i' : Fin a) (j' : Fin b) (k' : Fin d) (hi : i'.val = o0 + i.val) (hj : j'.val = o1 + j.val)
    (hk : k'.val = o2 + k.val) :
    View.readAt (Elt F) m.view (Rect.unit (s := ⟨3, ![a, b, d]⟩) ![o0, o1, o2] ![n0, n1, n2] inb).toLoadRect (h.unread X) (ix3 i j k)
      = X (ix3 i' j' k') := by
  rw [View.readAt_apply, h.read_unread]
  refine congrArg X (funext fun x => Fin.ext ?_)
  match x with
  | ⟨0, _⟩ => show o0 + 1 * i.val = i'.val; omega
  | ⟨1, _⟩ => show o1 + 1 * j.val = j'.val; omega
  | ⟨2, _⟩ => show o2 + 1 * k.val = k'.val; omega

/-- Where a tail row and the state row lie in the scratch. -/
theorem tail_idx0 (i : Fin 3) (j : Fin 1536) :
    tailLd0.idx (Shape.reshapeEquiv tail_numel (ix2 i j)) = ix3 (n0 := 2) (n1 := 8) 0 ⟨5 + i.val, by omega⟩ j := by
  rw [show Shape.reshapeEquiv tail_numel (ix2 i j) = Fin.cons ⟨0, Nat.one_pos⟩ (ix2 i j) from
    Shape.reshapeEquiv_cons_one (d := tailRows.toLoadRect.size) _ _]
  refine funext fun x => Fin.ext ?_
  match x with
  | ⟨0, _⟩ => rfl
  | ⟨1, _⟩ => show 0 + 5 + 1 * i.val = 5 + i.val; omega
  | ⟨2, _⟩ => show 0 + 0 + 1 * j.val = j.val; omega

/-- Where the second sequence's tail rows are loaded from. -/
theorem tail_idx1 (i : Fin 3) (j : Fin 1536) :
    tailLd1.idx (Shape.reshapeEquiv tail_numel (ix2 i j)) = ix3 (n0 := 2) (n1 := 8) 1 ⟨5 + i.val, by omega⟩ j := by
  rw [show Shape.reshapeEquiv tail_numel (ix2 i j) = Fin.cons ⟨0, Nat.one_pos⟩ (ix2 i j) from
    Shape.reshapeEquiv_cons_one (d := tailRows.toLoadRect.size) _ _]
  refine funext fun x => Fin.ext ?_
  match x with
  | ⟨0, _⟩ => rfl
  | ⟨1, _⟩ => show 0 + 5 + 1 * i.val = 5 + i.val; omega
  | ⟨2, _⟩ => show 0 + 0 + 1 * j.val = j.val; omega

/-- Where the first sequence's state row is loaded from. -/
theorem last_idx0 (j : Fin 1536) :
    lastLd0.idx (Shape.reshapeEquiv last_numel (ix2 (0 : Fin 1) j)) = ix3 (n0 := 2) (n1 := 8) 0 0 j := by
  rw [show Shape.reshapeEquiv last_numel (ix2 (0 : Fin 1) j) = Fin.cons ⟨0, Nat.one_pos⟩ (ix2 (0 : Fin 1) j) from
    Shape.reshapeEquiv_cons_one (d := lastRow.toLoadRect.size) _ _]
  refine funext fun x => Fin.ext ?_
  match x with
  | ⟨0, _⟩ => rfl
  | ⟨1, _⟩ => rfl
  | ⟨2, _⟩ => show 0 + 0 + 1 * j.val = j.val; omega

/-- Where the second sequence's state row is loaded from. -/
theorem last_idx1 (j : Fin 1536) :
    lastLd1.idx (Shape.reshapeEquiv last_numel (ix2 (0 : Fin 1) j)) = ix3 (n0 := 2) (n1 := 8) 1 0 j := by
  rw [show Shape.reshapeEquiv last_numel (ix2 (0 : Fin 1) j) = Fin.cons ⟨0, Nat.one_pos⟩ (ix2 (0 : Fin 1) j) from
    Shape.reshapeEquiv_cons_one (d := lastRow.toLoadRect.size) _ _]
  refine funext fun x => Fin.ext ?_
  match x with
  | ⟨0, _⟩ => rfl
  | ⟨1, _⟩ => rfl
  | ⟨2, _⟩ => show 0 + 0 + 1 * j.val = j.val; omega

/-- The same places, of a store's own index, and the stored value there. -/
theorem tail_place0 (i : Fin 3) (j : Fin 1536) (z : (tailRows.consLift ![1, 8, 1536] one_1x8 succ_1x8).shape.Idx) (hz : z = Fin.cons (⟨0, Nat.one_pos⟩ : Fin 1) (ix2 i j)) :
    ∀ x, ((ix3 (n0 := 2) (n1 := 8) 0 ⟨5 + i.val, by omega⟩ j) x).val = tailAt0.off x + tailAt0.stride x * (z x).val := by
  subst hz
  intro x
  match x with
  | ⟨0, _⟩ => rfl
  | ⟨1, _⟩ => show 5 + i.val = 0 + 5 + 1 * i.val; omega
  | ⟨2, _⟩ => show j.val = 0 + 0 + 1 * j.val; omega

/-- Where the second sequence's tail rows are stored. -/
theorem tail_place1 (i : Fin 3) (j : Fin 1536) (z : (tailRows.consLift ![1, 8, 1536] one_1x8 succ_1x8).shape.Idx) (hz : z = Fin.cons (⟨0, Nat.one_pos⟩ : Fin 1) (ix2 i j)) :
    ∀ x, ((ix3 (n0 := 2) (n1 := 8) 1 ⟨5 + i.val, by omega⟩ j) x).val = tailAt1.off x + tailAt1.stride x * (z x).val := by
  subst hz
  intro x
  match x with
  | ⟨0, _⟩ => rfl
  | ⟨1, _⟩ => show 5 + i.val = 0 + 5 + 1 * i.val; omega
  | ⟨2, _⟩ => show j.val = 0 + 0 + 1 * j.val; omega

/-- A stored tail, at an index of its place. -/
theorem tail_pay (w : FVec F S3x1536 .f32) (i : Fin 3) (j : Fin 1536) (z : (tailRows.consLift ![1, 8, 1536] one_1x8 succ_1x8).shape.Idx)
    (hz : z = Fin.cons (⟨0, Nat.one_pos⟩ : Fin 1) (ix2 i j)) : Rect.payAlong tail_numel' w z = w (ix2 i j) :=
  Rect.payAlong_consLift tailRows ![1, 8, 1536] one_1x8 succ_1x8 w _ z (ix2 i j) fun _ => by subst hz; rfl

/-- Where the first sequence's state row is stored. -/
theorem last_place0 (j : Fin 1536) (z : (lastRow.consLift ![1, 8, 1536] one_1x8 succ_1x8).shape.Idx) (hz : z = Fin.cons (⟨0, Nat.one_pos⟩ : Fin 1) (ix2 (0 : Fin 1) j)) :
    ∀ x, ((ix3 (n0 := 2) (n1 := 8) 0 0 j) x).val = lastAt0.off x + lastAt0.stride x * (z x).val := by
  subst hz
  intro x
  match x with
  | ⟨0, _⟩ => rfl
  | ⟨1, _⟩ => rfl
  | ⟨2, _⟩ => show j.val = 0 + 0 + 1 * j.val; omega

/-- Where the second sequence's state row is stored. -/
theorem last_place1 (j : Fin 1536) (z : (lastRow.consLift ![1, 8, 1536] one_1x8 succ_1x8).shape.Idx) (hz : z = Fin.cons (⟨0, Nat.one_pos⟩ : Fin 1) (ix2 (0 : Fin 1) j)) :
    ∀ x, ((ix3 (n0 := 2) (n1 := 8) 1 0 j) x).val = lastAt1.off x + lastAt1.stride x * (z x).val := by
  subst hz
  intro x
  match x with
  | ⟨0, _⟩ => rfl
  | ⟨1, _⟩ => rfl
  | ⟨2, _⟩ => show j.val = 0 + 0 + 1 * j.val; omega

/-- A stored state, at an index of its place. -/
theorem last_pay (w : FVec F S1x1536 .f32) (j : Fin 1536) (z : (lastRow.consLift ![1, 8, 1536] one_1x8 succ_1x8).shape.Idx)
    (hz : z = Fin.cons (⟨0, Nat.one_pos⟩ : Fin 1) (ix2 (0 : Fin 1) j)) : Rect.payAlong last_numel' w z = w (ix2 (0 : Fin 1) j) :=
  Rect.payAlong_consLift lastRow ![1, 8, 1536] one_1x8 succ_1x8 w _ z (ix2 (0 : Fin 1) j) fun _ => by subst hz; rfl

/-- The stores, named: of a tail and a state at its sequence's plane, of a whole scratch, of the output block's halves. -/
def tailPc0 (w : FVec F S3x1536 .f32) : View.Piece (Elt F) S2x8x1536 .f32 := ⟨tailAt0, Rect.payAlong tail_numel' w⟩
/-- The store of the second sequence's tail. -/
def tailPc1 (w : FVec F S3x1536 .f32) : View.Piece (Elt F) S2x8x1536 .f32 := ⟨tailAt1, Rect.payAlong tail_numel' w⟩
/-- The store of the first sequence's state. -/
def lastPc0 (w : FVec F S1x1536 .f32) : View.Piece (Elt F) S2x8x1536 .f32 := ⟨lastAt0, Rect.payAlong last_numel' w⟩
/-- The store of the second sequence's state. -/
def lastPc1 (w : FVec F S1x1536 .f32) : View.Piece (Elt F) S2x8x1536 .f32 := ⟨lastAt1, Rect.payAlong last_numel' w⟩
/-- The store over a whole scratch. -/
def zeroPc (w : FVec F S2x8x1536 .f32) : View.Piece (Elt F) S2x8x1536 .f32 :=
  ⟨Rect.unit (s := S2x8x1536) ![0, 0, 0] S2x8x1536.size inb_S2x8x1536_S2x8x1536_0_0_0, w⟩
/-- The store of the first sequence's output. -/
def outPc0 (w : FVec F S1x256x1024 .f32) : View.Piece (Elt F) S2x256x1024 .f32 :=
  ⟨Rect.unit (s := S2x256x1024) ![0, 0, 0] S1x256x1024.size inb_S2x256x1024_S1x256x1024_0_0_0, w⟩
/-- The store of the second sequence's output. -/
def outPc1 (w : FVec F S1x256x1024 .f32) : View.Piece (Elt F) S2x256x1024 .f32 :=
  ⟨Rect.unit (s := S2x256x1024) ![1, 0, 0] S1x256x1024.size inb_S2x256x1024_S1x256x1024_1_0_0, w⟩

section Stores

variable (v : View sig .tc .vmem S2x8x1536 .f32) (f : v.ty.Contents (Elt F)) (L : List (View.Piece (Elt F) S2x8x1536 .f32))

/-- A stored tail or state, read back at its own rows; -/
theorem read_tail0 (w : FVec F S3x1536 .f32) (i : Fin 3) (j : Fin 1536) :
    v.read (Elt F) (v.writes (Elt F) f (tailPc0 w :: L)) (ix3 (n0 := 2) (n1 := 8) 0 ⟨5 + i.val, by omega⟩ j) = w (ix2 i j) :=
  (View.read_writes_cons_hit_of_coords v f tailAt0 (Rect.payAlong tail_numel' w) L _ _ (tail_place0 i j _ rfl)).trans
    (tail_pay w i j _ rfl)

/-- The second sequence's tail is read back from its store. -/
theorem read_tail1 (w : FVec F S3x1536 .f32) (i : Fin 3) (j : Fin 1536) :
    v.read (Elt F) (v.writes (Elt F) f (tailPc1 w :: L)) (ix3 (n0 := 2) (n1 := 8) 1 ⟨5 + i.val, by omega⟩ j) = w (ix2 i j) :=
  (View.read_writes_cons_hit_of_coords v f tailAt1 (Rect.payAlong tail_numel' w) L _ _ (tail_place1 i j _ rfl)).trans
    (tail_pay w i j _ rfl)

/-- The first sequence's state is read back from its store. -/
theorem read_last0 (w : FVec F S1x1536 .f32) (j : Fin 1536) :
    v.read (Elt F) (v.writes (Elt F) f (lastPc0 w :: L)) (ix3 (n0 := 2) (n1 := 8) 0 0 j) = w (ix2 (0 : Fin 1) j) :=
  (View.read_writes_cons_hit_of_coords v f lastAt0 (Rect.payAlong last_numel' w) L _ _ (last_place0 j _ rfl)).trans
    (last_pay w j _ rfl)

/-- The second sequence's state is read back from its store. -/
theorem read_last1 (w : FVec F S1x1536 .f32) (j : Fin 1536) :
    v.read (Elt F) (v.writes (Elt F) f (lastPc1 w :: L)) (ix3 (n0 := 2) (n1 := 8) 1 0 j) = w (ix2 (0 : Fin 1) j) :=
  (View.read_writes_cons_hit_of_coords v f lastAt1 (Rect.payAlong last_numel' w) L _ _ (last_place1 j _ rfl)).trans
    (last_pay w j _ rfl)

/-- and passed over at the other sequence's plane. -/
theorem skip_tail0 (w) (r : Fin 8) (j : Fin 1536) :
    v.read (Elt F) (v.writes (Elt F) f (tailPc0 w :: L)) (ix3 (n0 := 2) 1 r j) = v.read (Elt F) (v.writes (Elt F) f L) (ix3 (n0 := 2) 1 r j) :=
  View.read_writes_cons_miss_of_axis v f _ L _ (0 : Fin 3) 0 1 rfl rfl rfl (.inr (by show 0 + 1 ≤ 1; omega))

/-- A store of the second tail leaves the first plane. -/
theorem skip_tail1 (w) (r : Fin 8) (j : Fin 1536) :
    v.read (Elt F) (v.writes (Elt F) f (tailPc1 w :: L)) (ix3 (n0 := 2) 0 r j) = v.read (Elt F) (v.writes (Elt F) f L) (ix3 (n0 := 2) 0 r j) :=
  View.read_writes_cons_miss_of_axis v f _ L _ (0 : Fin 3) 1 1 rfl rfl rfl (.inl (by show 0 < 1; omega))

/-- A store of the first state leaves the second plane. -/
theorem skip_last0 (w) (r : Fin 8) (j : Fin 1536) :
    v.read (Elt F) (v.writes (Elt F) f (lastPc0 w :: L)) (ix3 (n0 := 2) 1 r j) = v.read (Elt F) (v.writes (Elt F) f L) (ix3 (n0 := 2) 1 r j) :=
  View.read_writes_cons_miss_of_axis v f _ L _ (0 : Fin 3) 0 1 rfl rfl rfl (.inr (by show 0 + 1 ≤ 1; omega))

/-- A store of the second state leaves the first plane. -/
theorem skip_last1 (w) (r : Fin 8) (j : Fin 1536) :
    v.read (Elt F) (v.writes (Elt F) f (lastPc1 w :: L)) (ix3 (n0 := 2) 0 r j) = v.read (Elt F) (v.writes (Elt F) f L) (ix3 (n0 := 2) 0 r j) :=
  View.read_writes_cons_miss_of_axis v f _ L _ (0 : Fin 3) 1 1 rfl rfl rfl (.inl (by show 0 < 1; omega))

/-- A store of the whole scratch reads back everywhere. -/
theorem read_zero (w : FVec F S2x8x1536 .f32) (g : Fin 2) (r : Fin 8) (j : Fin 1536) :
    v.read (Elt F) (v.writes (Elt F) f (zeroPc w :: L)) (ix3 g r j) = w (ix3 g r j) := by
  refine View.read_writes_cons_hit_of_coords v f (Rect.unit (s := S2x8x1536) ![0, 0, 0] S2x8x1536.size inb_S2x8x1536_S2x8x1536_0_0_0) w L (ix3 g r j) (ix3 g r j) fun x => ?_
  match x with
  | ⟨0, _⟩ => show g.val = 0 + 1 * g.val; omega
  | ⟨1, _⟩ => show r.val = 0 + 1 * r.val; omega
  | ⟨2, _⟩ => show j.val = 0 + 1 * j.val; omega

end Stores

section Out

variable (v : View sig .tc .vmem S2x256x1024 .f32) (f : v.ty.Contents (Elt F)) (w1 w0 : FVec F S1x256x1024 .f32)

/-- The output block's two halves. -/
theorem read_out0 (r : Fin 256) (k : Fin 1024) :
    v.read (Elt F) (v.writes (Elt F) f [outPc1 w1, outPc0 w0]) (ix3 (n0 := 2) 0 r k) = w0 (ix3 0 r k) := by
  refine (View.read_writes_cons_miss_of_axis v f _ _ _ (0 : Fin 3) 1 1 rfl rfl rfl (.inl (by show 0 < 1; omega))).trans ?_
  refine View.read_writes_cons_hit_of_coords v f (Rect.unit (s := S2x256x1024) ![0, 0, 0] S1x256x1024.size inb_S2x256x1024_S1x256x1024_0_0_0) w0 _ (ix3 (n0 := 1) 0 r k) _ fun x => ?_
  match x with
  | ⟨0, _⟩ => rfl
  | ⟨1, _⟩ => show r.val = 0 + 1 * r.val; omega
  | ⟨2, _⟩ => show k.val = 0 + 1 * k.val; omega

/-- The second sequence's output is read back from its store. -/
theorem read_out1 (r : Fin 256) (k : Fin 1024) :
    v.read (Elt F) (v.writes (Elt F) f [outPc1 w1, outPc0 w0]) (ix3 (n0 := 2) 1 r k) = w1 (ix3 0 r k) := by
  refine View.read_writes_cons_hit_of_coords v f (Rect.unit (s := S2x256x1024) ![1, 0, 0] S1x256x1024.size inb_S2x256x1024_S1x256x1024_1_0_0) w1 _ (ix3 (n0 := 1) 0 r k) _ fun x => ?_
  match x with
  | ⟨0, _⟩ => rfl
  | ⟨1, _⟩ => show r.val = 0 + 1 * r.val; omega
  | ⟨2, _⟩ => show k.val = 0 + 1 * k.val; omega

end Out

end Cert.KernelIdeal.Hand
-- ==== Proof.KernelIdeal.HawkValue.lean ====
module

public import proofs.«01_k».proof.Proof.KernelIdeal.HawkRead
public import Idealize.ShloMosaic.Lib.Pointwise

@[expose] public section

set_option maxRecDepth 16384

noncomputable section

/-! # One grid point of the first call, and the scratch it carries to the next -/

namespace Cert.KernelIdeal.Hand

open Idealize.ShloMosaic Idealize.ShloMosaic.TcCoe Cert.KernelIdeal Cert.KernelIdeal.Gen Cert.Spec

section Loads

variable {F : FTy → Type} [FloatOps F]

/-- The tail and the state that a body loads, of a scratch's contents -/
theorem tlB0 (xs0 : Vec F S2x8x1536 .f32) (i : Fin 3) (j : Fin 1536) :
    LoadRect.valAlong tail_numel (View.readAt (Elt F) scM0_0.view tailLd0 ((Memref.isWhole_whole _ : scM0_0.IsWhole).unread xs0)) (ix2 i j)
      = xs0 (ix3 (n0 := 2) (n1 := 8) 0 ⟨5 + i.val, by omega⟩ j) :=
  (congrArg (scM0_0.view.read (Elt F) ((Memref.isWhole_whole _ : scM0_0.IsWhole).unread xs0)) (tail_idx0 i j)).trans
    (congrFun ((Memref.isWhole_whole _ : scM0_0.IsWhole).read_unread xs0) _)

/-- A later chunk's first state is the scratch's row. -/
theorem hB0 (xs1 : Vec F S2x8x1536 .f32) (j : Fin 1536) :
    LoadRect.valAlong last_numel (View.readAt (Elt F) scM0_1.view lastLd0 ((Memref.isWhole_whole _ : scM0_1.IsWhole).unread xs1)) (ix2 (0 : Fin 1) j)
      = xs1 (ix3 (n0 := 2) (n1 := 8) 0 0 j) :=
  (congrArg (scM0_1.view.read (Elt F) ((Memref.isWhole_whole _ : scM0_1.IsWhole).unread xs1)) (last_idx0 j)).trans
    (congrFun ((Memref.isWhole_whole _ : scM0_1.IsWhole).read_unread xs1) _)

/-- and of stores made before. -/
theorem tlA0 (L : List (View.Piece (Elt F) S2x8x1536 .f32)) (i : Fin 3) (j : Fin 1536) :
    LoadRect.valAlong tail_numel (scM0_0.view.readCov L tailLd0) (ix2 i j)
      = scM0_0.view.read (Elt F) (scM0_0.view.writes (Elt F) scM0_0.view.junk L) (ix3 (n0 := 2) (n1 := 8) 0 ⟨5 + i.val, by omega⟩ j) :=
  congrArg (scM0_0.view.read (Elt F) (scM0_0.view.writes (Elt F) scM0_0.view.junk L)) (tail_idx0 i j)

/-- A first chunk's first state is what was stored before it was read. -/
theorem hA0 (L : List (View.Piece (Elt F) S2x8x1536 .f32)) (j : Fin 1536) :
    LoadRect.valAlong last_numel (scM0_1.view.readCov L lastLd0) (ix2 (0 : Fin 1) j)
      = scM0_1.view.read (Elt F) (scM0_1.view.writes (Elt F) scM0_1.view.junk L) (ix3 (n0 := 2) (n1 := 8) 0 0 j) :=
  congrArg (scM0_1.view.read (Elt F) (scM0_1.view.writes (Elt F) scM0_1.view.junk L)) (last_idx0 j)

/-- A later chunk's second tail is the scratch's rows. -/
theorem tlB1 (xs0 : Vec F S2x8x1536 .f32) (i : Fin 3) (j : Fin 1536) :
    LoadRect.valAlong tail_numel (View.readAt (Elt F) scM0_0.view tailLd1 ((Memref.isWhole_whole _ : scM0_0.IsWhole).unread xs0)) (ix2 i j)
      = xs0 (ix3 (n0 := 2) (n1 := 8) 1 ⟨5 + i.val, by omega⟩ j) :=
  (congrArg (scM0_0.view.read (Elt F) ((Memref.isWhole_whole _ : scM0_0.IsWhole).unread xs0)) (tail_idx1 i j)).trans
    (congrFun ((Memref.isWhole_whole _ : scM0_0.IsWhole).read_unread xs0) _)

/-- A later chunk's second state is the scratch's row. -/
theorem hB1 (xs1 : Vec F S2x8x1536 .f32) (j : Fin 1536) :
    LoadRect.valAlong last_numel (View.readAt (Elt F) scM0_1.view lastLd1 ((Memref.isWhole_whole _ : scM0_1.IsWhole).unread xs1)) (ix2 (0 : Fin 1) j)
      = xs1 (ix3 (n0 := 2) (n1 := 8) 1 0 j) :=
  (congrArg (scM0_1.view.read (Elt F) ((Memref.isWhole_whole _ : scM0_1.IsWhole).unread xs1)) (last_idx1 j)).trans
    (congrFun ((Memref.isWhole_whole _ : scM0_1.IsWhole).read_unread xs1) _)

/-- and of stores made before. -/
theorem tlA1 (L : List (View.Piece (Elt F) S2x8x1536 .f32)) (i : Fin 3) (j : Fin 1536) :
    LoadRect.valAlong tail_numel (scM0_0.view.readCov L tailLd1) (ix2 i j)
      = scM0_0.view.read (Elt F) (scM0_0.view.writes (Elt F) scM0_0.view.junk L) (ix3 (n0 := 2) (n1 := 8) 1 ⟨5 + i.val, by omega⟩ j) :=
  congrArg (scM0_0.view.read (Elt F) (scM0_0.view.writes (Elt F) scM0_0.view.junk L)) (tail_idx1 i j)

/-- A first chunk's second state is what was stored before it was read. -/
theorem hA1 (L : List (View.Piece (Elt F) S2x8x1536 .f32)) (j : Fin 1536) :
    LoadRect.valAlong last_numel (scM0_1.view.readCov L lastLd1) (ix2 (0 : Fin 1) j)
      = scM0_1.view.read (Elt F) (scM0_1.view.writes (Elt F) scM0_1.view.junk L) (ix3 (n0 := 2) (n1 := 8) 1 0 j) :=
  congrArg (scM0_1.view.read (Elt F) (scM0_1.view.writes (Elt F) scM0_1.view.junk L)) (last_idx1 j)

end Loads

variable (V : (c : Dev nD) → (b : Ref sig .tc) → Buf (Elt Ideal) ((c : Thread nD τ).loc b)) (c : Dev nD) (t : Fin cfg0.N)

/-- The input blocks at a point: the parameters, and 256 rows of two sequences `Xs` from time `T`. -/
structure Blocks (P : Par) (Xs : Fin 2 → ℕ → Fin 1024 → EReal) (T : ℕ) : Prop where
  x : ∀ (g : Fin 2) (r : Fin 256) (k : Fin 1024), (iblk0 V c 0 t : Vec Ideal S2x256x1024 .f32) (ix3 g r k) = Xs g (T + r.val) k
  g : ∀ k : Fin 1024, (iblk0 V c 1 t : Vec Ideal S1x1024 .f32) (ix2 0 k) = P.gam k
  w : ∀ (k : Fin 1024) (o : Fin 3072), (iblk0 V c 2 t : Vec Ideal S1024x3072 .bf16) (ix2 k o) = P.win o k
  cw : ∀ (i : Fin 4) (j : Fin 1536), (iblk0 V c 3 t : Vec Ideal S8x1536 .f32) (ix2 ⟨i.val, by omega⟩ j) = P.cw j i
  cb : ∀ j : Fin 1536, (iblk0 V c 4 t : Vec Ideal S1x1536 .f32) (ix2 0 j) = P.cb j
  wg : ∀ (k : Fin 1536) (o : Fin 3072), (iblk0 V c 5 t : Vec Ideal S1536x3072 .bf16) (ix2 k o) = P.wg o k
  bg : ∀ o : Fin 3072, (iblk0 V c 6 t : Vec Ideal S1x3072 .f32) (ix2 0 o) = P.bg o
  fb : ∀ j : Fin 1536, (iblk0 V c 7 t : Vec Ideal S1x1536 .f32) (ix2 0 j) = P.fb j
  wo : ∀ (j : Fin 1536) (k : Fin 1024), (iblk0 V c 8 t : Vec Ideal S1536x1024 .bf16) (ix2 j k) = P.wo k j

/-- The scratch before time `T`: each sequence's last three convolution rows, and its state. -/
structure Scr (P : Par) (Xs : Fin 2 → ℕ → Fin 1024 → EReal) (T : ℕ) (xs0 xs1 : Vec Ideal S2x8x1536 .f32) : Prop where
  tl : ∀ (g : Fin 2) (i : Fin 3) (j : Fin 1536), xs0 (ix3 (n1 := 8) g ⟨5 + i.val, by omega⟩ j) = lag P (Xs g) T (3 - i.val) j
  h : ∀ (g : Fin 2) (j : Fin 1536), xs1 (ix3 (n1 := 8) g 0 j) = state P (Xs g) T j

/-- What a point leaves: the mixed rows in the output block, and the scratch for the next chunk. -/
structure Left (P : Par) (Xs : Fin 2 → ℕ → Fin 1024 → EReal) (T : ℕ) (o : Vec Ideal S2x256x1024 .f32 × Vec Ideal S2x8x1536 .f32 × Vec Ideal S2x8x1536 .f32) : Prop where
  out : ∀ (g : Fin 2) (r : Fin 256) (k : Fin 1024), o.1 (ix3 g r k) = mixed P (Xs g) (T + r.val) k
  scr : Scr P Xs (T + 256) o.2.1 o.2.2

variable {V c t} {P : Par} {Xs : Fin 2 → ℕ → Fin 1024 → EReal} {T : ℕ}

section Fields

variable (B : Blocks V c t P Xs T) (x : Vec Ideal S1x256x1024 .f32) (tl : Vec Ideal S3x1536 .f32) (h : Vec Ideal S1x1536 .f32)
include B

/-- A body's loads of the parameter blocks. -/
theorem loads_g (k : Fin 1024) : (loads V c t x tl h).g (ix2 0 k) = P.gam k :=
  (ld2 (ms0_1 t) (hs0_1 t) (iblk0 V c 1 t) 0 0 _ 0 k 0 k rfl (Nat.zero_add _).symm).trans (B.g k)
/-- The loaded input projection. -/
theorem loads_w (k : Fin 1024) (o : Fin 3072) : (loads V c t x tl h).w (ix2 k o) = P.win o k :=
  (ld2 (ms0_2 t) (hs0_2 t) (iblk0 V c 2 t) 0 0 _ k o k o (Nat.zero_add _).symm (Nat.zero_add _).symm).trans (B.w k o)
/-- The loaded tap of the present step. -/
theorem loads_c3 (j : Fin 1536) : (loads V c t x tl h).c3 (ix2 0 j) = P.cw j 3 :=
  (ld2 (ms0_3 t) (hs0_3 t) (iblk0 V c 3 t) 3 0 _ 0 j ⟨3, by omega⟩ j rfl (Nat.zero_add _).symm).trans (B.cw 3 j)
/-- The loaded tap of one step back. -/
theorem loads_c2 (j : Fin 1536) : (loads V c t x tl h).c2 (ix2 0 j) = P.cw j 2 :=
  (ld2 (ms0_3 t) (hs0_3 t) (iblk0 V c 3 t) 2 0 _ 0 j ⟨2, by omega⟩ j rfl (Nat.zero_add _).symm).trans (B.cw 2 j)
/-- The loaded tap of two steps back. -/
theorem loads_c1 (j : Fin 1536) : (loads V c t x tl h).c1 (ix2 0 j) = P.cw j 1 :=
  (ld2 (ms0_3 t) (hs0_3 t) (iblk0 V c 3 t) 1 0 _ 0 j ⟨1, by omega⟩ j rfl (Nat.zero_add _).symm).trans (B.cw 1 j)
/-- The loaded tap of three steps back. -/
theorem loads_c0 (j : Fin 1536) : (loads V c t x tl h).c0 (ix2 0 j) = P.cw j 0 :=
  (ld2 (ms0_3 t) (hs0_3 t) (iblk0 V c 3 t) 0 0 _ 0 j ⟨0, by omega⟩ j rfl (Nat.zero_add _).symm).trans (B.cw 0 j)
/-- The loaded convolution bias. -/
theorem loads_cb (j : Fin 1536) : (loads V c t x tl h).cb (ix2 0 j) = P.cb j :=
  (ld2 (ms0_4 t) (hs0_4 t) (iblk0 V c 4 t) 0 0 _ 0 j 0 j rfl (Nat.zero_add _).symm).trans (B.cb j)
/-- The loaded gate weights. -/
theorem loads_wg (k : Fin 1536) (o : Fin 3072) : (loads V c t x tl h).wg (ix2 k o) = P.wg o k :=
  (ld2 (ms0_5 t) (hs0_5 t) (iblk0 V c 5 t) 0 0 _ k o k o (Nat.zero_add _).symm (Nat.zero_add _).symm).trans (B.wg k o)
/-- The loaded gate bias. -/
theorem loads_bg (o : Fin 3072) : (loads V c t x tl h).bg (ix2 0 o) = P.bg o :=
  (ld2 (ms0_6 t) (hs0_6 t) (iblk0 V c 6 t) 0 0 _ 0 o 0 o rfl (Nat.zero_add _).symm).trans (B.bg o)
/-- The loaded forget base. -/
theorem loads_fb (j : Fin 1536) : (loads V c t x tl h).fb (ix2 0 j) = P.fb j :=
  (ld2 (ms0_7 t) (hs0_7 t) (iblk0 V c 7 t) 0 0 _ 0 j 0 j rfl (Nat.zero_add _).symm).trans (B.fb j)
/-- The loaded output projection. -/
theorem loads_wo (j : Fin 1536) (k : Fin 1024) : (loads V c t x tl h).wo (ix2 j k) = P.wo k j :=
  (ld2 (ms0_8 t) (hs0_8 t) (iblk0 V c 8 t) 0 0 _ j k j k (Nat.zero_add _).symm (Nat.zero_add _).symm).trans (B.wo j k)

end Fields

/-- The loads of one sequence are what the block's mathematics takes. -/
theorem loads_of (B : Blocks V c t P Xs T) (g : Fin 2) (x : Vec Ideal S1x256x1024 .f32) (tl : Vec Ideal S3x1536 .f32) (h : Vec Ideal S1x1536 .f32)
    (hx : ∀ (r : Fin 256) (k : Fin 1024), x (ix3 0 r k) = Xs g (T + r.val) k)
    (htl : ∀ (i : Fin 3) (j : Fin 1536), tl (ix2 i j) = lag P (Xs g) T (3 - i.val) j)
    (hh : ∀ j : Fin 1536, h (ix2 0 j) = state P (Xs g) T j) : (loads V c t x tl h).Of P (Xs g) T where
  x := hx
  g := loads_g B x tl h
  w := loads_w B x tl h
  tl := htl
  c3 := loads_c3 B x tl h
  c2 := loads_c2 B x tl h
  c1 := loads_c1 B x tl h
  c0 := loads_c0 B x tl h
  cb := loads_cb B x tl h
  wg := loads_wg B x tl h
  bg := loads_bg B x tl h
  fb := loads_fb B x tl h
  h := hh
  wo := loads_wo B x tl h

/-- The first sequence's rows of the chunk. -/
theorem rows0_at (B : Blocks V c t P Xs T) (r : Fin 256) (k : Fin 1024) : rows0 V c t (ix3 0 r k) = Xs 0 (T + r.val) k :=
  (ld3 (ms0_0 t) (hs0_0 t) (iblk0 V c 0 t) 0 0 0 _ 0 r k 0 r k rfl (Nat.zero_add _).symm (Nat.zero_add _).symm).trans (B.x 0 r k)

/-- The second sequence's rows of the chunk. -/
theorem rows1_at (B : Blocks V c t P Xs T) (r : Fin 256) (k : Fin 1024) : rows1 V c t (ix3 0 r k) = Xs 1 (T + r.val) k :=
  (ld3 (ms0_0 t) (hs0_0 t) (iblk0 V c 0 t) 1 0 0 _ 0 r k 1 r k rfl (Nat.zero_add _).symm (Nat.zero_add _).symm).trans (B.x 1 r k)

section Stored

variable {a0 a1 : HawkIn Ideal} (h0 : a0.Of P (Xs 0) T) (h1 : a1.Of P (Xs 1) T)
include h0 h1

/-- Stores of the two sequences' results leave what they should, whatever was there before: the mixed rows, -/
theorem stored_out (hf : ∀ j, P.fb j < ⊤) (v : View sig .tc .vmem S2x256x1024 .f32) (f : v.ty.Contents (Elt Ideal)) (g : Fin 2) (r : Fin 256) (k : Fin 1024) :
    v.read (Elt Ideal) (v.writes (Elt Ideal) f [outPc1 a1.out, outPc0 a0.out]) (ix3 g r k) = mixed P (Xs g) (T + r.val) k := by
  match g with
  | 0 => exact (read_out0 v f a1.out a0.out r k).trans (out_at h0 hf r k)
  | 1 => exact (read_out1 v f a1.out a0.out r k).trans (out_at h1 hf r k)

/-- the last convolution rows, -/
theorem stored_tail (v : View sig .tc .vmem S2x8x1536 .f32) (f : v.ty.Contents (Elt Ideal)) (L : List (View.Piece (Elt Ideal) S2x8x1536 .f32))
    (g : Fin 2) (i : Fin 3) (j : Fin 1536) :
    v.read (Elt Ideal) (v.writes (Elt Ideal) f (tailPc1 a1.tail :: tailPc0 a0.tail :: L)) (ix3 (n1 := 8) g ⟨5 + i.val, by omega⟩ j)
      = lag P (Xs g) (T + 256) (3 - i.val) j := by
  match g with
  | 0 => exact (skip_tail1 v f (tailPc0 a0.tail :: L) a1.tail _ j).trans ((read_tail0 v f L a0.tail i j).trans (tail_at h0 i j))
  | 1 => exact (read_tail1 v f _ a1.tail i j).trans (tail_at h1 i j)

/-- and the last states. -/
theorem stored_last (hf : ∀ j, P.fb j < ⊤) (v : View sig .tc .vmem S2x8x1536 .f32) (f : v.ty.Contents (Elt Ideal))
    (L : List (View.Piece (Elt Ideal) S2x8x1536 .f32)) (g : Fin 2) (j : Fin 1536) :
    v.read (Elt Ideal) (v.writes (Elt Ideal) f (lastPc1 a1.last :: lastPc0 a0.last :: L)) (ix3 (n1 := 8) g 0 j) = state P (Xs g) (T + 256) j := by
  match g with
  | 0 => exact (skip_last1 v f (lastPc0 a0.last :: L) a1.last 0 j).trans ((read_last0 v f L a0.last j).trans (last_at h0 hf j))
  | 1 => exact (read_last1 v f _ a1.last j).trans (last_at h1 hf j)

end Stored

/-- The stores of a later chunk to the output, as the named stores. -/
theorem pcsB_out (h0 : ¬t.val % 8 = 0) (xs0 xs1 : Vec Ideal S2x8x1536 .f32) :
    (runB V c t h0 xs0 xs1).1 = [outPc1 (loadsB1 V c t xs0 xs1).out, outPc0 (loadsB0 V c t xs0 xs1).out] := runB_out V c t h0 xs0 xs1
/-- The stores of a later chunk to the tails, as the named stores. -/
theorem pcsB_tail (h0 : ¬t.val % 8 = 0) (xs0 xs1 : Vec Ideal S2x8x1536 .f32) :
    (runB V c t h0 xs0 xs1).2.1 = [tailPc1 (loadsB1 V c t xs0 xs1).tail, tailPc0 (loadsB0 V c t xs0 xs1).tail] := runB_tail V c t h0 xs0 xs1
/-- The stores of a later chunk to the states, as the named stores. -/
theorem pcsB_last (h0 : ¬t.val % 8 = 0) (xs0 xs1 : Vec Ideal S2x8x1536 .f32) :
    (runB V c t h0 xs0 xs1).2.2.1 = [lastPc1 (loadsB1 V c t xs0 xs1).last, lastPc0 (loadsB0 V c t xs0 xs1).last] := runB_last V c t h0 xs0 xs1
/-- The stores of a first chunk to the output, as the named stores. -/
theorem pcsA_out (h0 : t.val % 8 = 0) :
    (runA V c t h0).1 = [outPc1 (loadsA1 V c t).out, outPc0 (loadsA0 V c t).out] := runA_out V c t h0
/-- The stores of a first chunk to the tails, as the named stores. -/
theorem pcsA_tail (h0 : t.val % 8 = 0) :
    (runA V c t h0).2.1 = [tailPc1 (loadsA1 V c t).tail, tailPc0 (loadsA0 V c t).tail, zeroPc k0_pay3] := runA_tail V c t h0
/-- The stores of a first chunk to the states, as the named stores. -/
theorem pcsA_last (h0 : t.val % 8 = 0) :
    (runA V c t h0).2.2.1 = [lastPc1 (loadsA1 V c t).last, lastPc0 (loadsA0 V c t).last, zeroPc k0_pay4] := runA_last V c t h0

/-- The output block after a later chunk. -/
theorem afterB_out (h0 : ¬t.val % 8 = 0) (xs0 xs1 : Vec Ideal S2x8x1536 .f32) {L : List (View.Piece (Elt Ideal) S2x256x1024 .f32)} (e : (runB V c t h0 xs0 xs1).1 = L) :
    (afterB V c t h0 xs0 xs1).1 = VO0_9.read (Elt Ideal) (VO0_9.writes (Elt Ideal) VO0_9.junk L) := by
  subst e; sl_kernel_rfl
/-- The tails after a later chunk. -/
theorem afterB_tail (h0 : ¬t.val % 8 = 0) (xs0 xs1 : Vec Ideal S2x8x1536 .f32) {L : List (View.Piece (Elt Ideal) S2x8x1536 .f32)} (e : (runB V c t h0 xs0 xs1).2.1 = L) :
    (afterB V c t h0 xs0 xs1).2.1 = scM0_0.view.read (Elt Ideal) (scM0_0.view.writes (Elt Ideal) ((Memref.isWhole_whole _ : scM0_0.IsWhole).unread xs0) L) := by
  subst e; sl_kernel_rfl
/-- The states after a later chunk. -/
theorem afterB_last (h0 : ¬t.val % 8 = 0) (xs0 xs1 : Vec Ideal S2x8x1536 .f32) {L : List (View.Piece (Elt Ideal) S2x8x1536 .f32)} (e : (runB V c t h0 xs0 xs1).2.2.1 = L) :
    (afterB V c t h0 xs0 xs1).2.2 = scM0_1.view.read (Elt Ideal) (scM0_1.view.writes (Elt Ideal) ((Memref.isWhole_whole _ : scM0_1.IsWhole).unread xs1) L) := by
  subst e; sl_kernel_rfl
/-- The output block after a first chunk. -/
theorem afterA_out (h0 : t.val % 8 = 0) {L : List (View.Piece (Elt Ideal) S2x256x1024 .f32)} (e : (runA V c t h0).1 = L) :
    (afterA V c t h0).1 = VO0_9.read (Elt Ideal) (VO0_9.writes (Elt Ideal) VO0_9.junk L) := by
  subst e; sl_kernel_rfl
/-- The tails after a first chunk. -/
theorem afterA_tail (h0 : t.val % 8 = 0) {L : List (View.Piece (Elt Ideal) S2x8x1536 .f32)} (e : (runA V c t h0).2.1 = L) :
    (afterA V c t h0).2.1 = scM0_0.view.read (Elt Ideal) (scM0_0.view.writes (Elt Ideal) scM0_0.view.junk L) := by
  subst e; sl_kernel_rfl
/-- The states after a first chunk. -/
theorem afterA_last (h0 : t.val % 8 = 0) {L : List (View.Piece (Elt Ideal) S2x8x1536 .f32)} (e : (runA V c t h0).2.2.1 = L) :
    (afterA V c t h0).2.2 = scM0_1.view.read (Elt Ideal) (scM0_1.view.writes (Elt Ideal) scM0_1.view.junk L) := by
  subst e; sl_kernel_rfl

/-- A later chunk's loads of the first sequence are what the layer has at that time. -/
theorem ofB0 (B : Blocks V c t P Xs T) (xs0 xs1 : Vec Ideal S2x8x1536 .f32) (S : Scr P Xs T xs0 xs1) : (loadsB0 V c t xs0 xs1).Of P (Xs 0) T :=
  loads_of B 0 _ _ _ (rows0_at B) (fun i j => (tlB0 xs0 i j).trans (S.tl 0 i j)) (fun j => (hB0 xs1 j).trans (S.h 0 j))
/-- A later chunk's loads of the second sequence are what the layer has at that time. -/
theorem ofB1 (B : Blocks V c t P Xs T) (xs0 xs1 : Vec Ideal S2x8x1536 .f32) (S : Scr P Xs T xs0 xs1) : (loadsB1 V c t xs0 xs1).Of P (Xs 1) T :=
  loads_of B 1 _ _ _ (rows1_at B) (fun i j => (tlB1 xs0 i j).trans (S.tl 1 i j)) (fun j => (hB1 xs1 j).trans (S.h 1 j))

/-- A later chunk. -/
theorem left_B (hf : ∀ j, P.fb j < ⊤) (B : Blocks V c t P Xs T) (h0 : ¬t.val % 8 = 0) (xs0 xs1 : Vec Ideal S2x8x1536 .f32) (S : Scr P Xs T xs0 xs1) :
    Left P Xs T (afterB V c t h0 xs0 xs1) := by
  have o0 := ofB0 B xs0 xs1 S
  have o1 := ofB1 B xs0 xs1 S
  have e1 := pcsB_out (V := V) (c := c) h0 xs0 xs1
  have e2 := pcsB_tail (V := V) (c := c) h0 xs0 xs1
  have e3 := pcsB_last (V := V) (c := c) h0 xs0 xs1
  exact
    { out := fun g r k => (congrFun (afterB_out h0 xs0 xs1 e1) (ix3 g r k)).trans
        (stored_out o0 o1 hf VO0_9 VO0_9.junk g r k)
      scr :=
        { tl := fun g i j => (congrFun (afterB_tail h0 xs0 xs1 e2) (ix3 (n1 := 8) g ⟨5 + i.val, by omega⟩ j)).trans (stored_tail o0 o1 scM0_0.view ((Memref.isWhole_whole _ : scM0_0.IsWhole).unread xs0) _ g i j)
          h := fun g j => (congrFun (afterB_last h0 xs0 xs1 e3) (ix3 (n1 := 8) g 0 j)).trans (stored_last o0 o1 hf scM0_1.view ((Memref.isWhole_whole _ : scM0_1.IsWhole).unread xs1) _ g j) } }

/-- Before the sequence starts the convolution sees zeros. -/
theorem lag_zero (X : ℕ → Fin 1024 → EReal) (i : Fin 3) (j : Fin 1536) : lag P X 0 (3 - i.val) j = 0 := if_pos (by omega)

/-- The tails are cleared with zeros. -/
theorem zero3 (x : S2x8x1536.Idx) : k0_pay3 (F := Ideal) x = 0 := by
  obtain ⟨g, r, j, rfl⟩ : ∃ (g : Fin 2) (r : Fin 8) (j : Fin 1536), x = ix3 g r j := ⟨x 0, x 1, x 2, eq_ix3 x⟩
  pointwise [k0_pay3]
/-- The states are cleared with zeros. -/
theorem zero4 (x : S2x8x1536.Idx) : k0_pay4 (F := Ideal) x = 0 := by
  obtain ⟨g, r, j, rfl⟩ : ∃ (g : Fin 2) (r : Fin 8) (j : Fin 1536), x = ix3 g r j := ⟨x 0, x 1, x 2, eq_ix3 x⟩
  pointwise [k0_pay4]

/-- A first chunk's loads of the first sequence are what the layer has at time zero. -/
theorem ofA0 (B : Blocks V c t P Xs 0) : (loadsA0 V c t).Of P (Xs 0) 0 :=
  loads_of B 0 _ _ _ (rows0_at B)
    (fun i j => (tlA0 [zeroPc k0_pay3] i j).trans ((read_zero scM0_0.view _ [] k0_pay3 0 _ j).trans ((zero3 _).trans (lag_zero _ i j).symm)))
    (fun j => (hA0 [zeroPc k0_pay4] j).trans ((read_zero scM0_1.view _ [] k0_pay4 0 0 j).trans (zero4 _)))
/-- A first chunk's loads of the second sequence are what the layer has at time zero. -/
theorem ofA1 (B : Blocks V c t P Xs 0) : (loadsA1 V c t).Of P (Xs 1) 0 :=
  loads_of B 1 _ _ _ (rows1_at B)
    (fun i j => (tlA1 [tailPc0 (loadsA0 V c t).tail, zeroPc k0_pay3] i j).trans ((skip_tail0 scM0_0.view _ [zeroPc k0_pay3] (loadsA0 V c t).tail _ j).trans
      ((read_zero scM0_0.view _ [] k0_pay3 1 _ j).trans ((zero3 _).trans (lag_zero _ i j).symm))))
    (fun j => (hA1 [lastPc0 (loadsA0 V c t).last, zeroPc k0_pay4] j).trans ((skip_last0 scM0_1.view _ [zeroPc k0_pay4] (loadsA0 V c t).last 0 j).trans
      ((read_zero scM0_1.view _ [] k0_pay4 1 0 j).trans (zero4 _))))

/-- A first chunk. -/
theorem left_A (hf : ∀ j, P.fb j < ⊤) (B : Blocks V c t P Xs 0) (h0 : t.val % 8 = 0) : Left P Xs 0 (afterA V c t h0) := by
  have o0 := ofA0 B
  have o1 := ofA1 B
  have e1 := pcsA_out (V := V) (c := c) h0
  have e2 := pcsA_tail (V := V) (c := c) h0
  have e3 := pcsA_last (V := V) (c := c) h0
  exact
    { out := fun g r k => (congrFun (afterA_out h0 e1) (ix3 g r k)).trans
        (stored_out o0 o1 hf VO0_9 VO0_9.junk g r k)
      scr :=
        { tl := fun g i j => (congrFun (afterA_tail h0 e2) (ix3 (n1 := 8) g ⟨5 + i.val, by omega⟩ j)).trans (stored_tail o0 o1 scM0_0.view scM0_0.view.junk _ g i j)
          h := fun g j => (congrFun (afterA_last h0 e3) (ix3 (n1 := 8) g 0 j)).trans (stored_last o0 o1 hf scM0_1.view scM0_1.view.junk _ g j) } }

/-- After every point of the grid: the chunk's rows, and the scratch at the chunk's end. -/
theorem left_at (V : (c : Dev nD) → (b : Ref sig .tc) → Buf (Elt Ideal) ((c : Thread nD τ).loc b)) (c : Dev nD) (P : Par) (X : ℕ → ℕ → Fin 1024 → EReal)
    (hf : ∀ j, P.fb j < ⊤)
    (B : ∀ t : Fin cfg0.N, Blocks V c t P (fun g => X (2 * (t.val / 8) + g.val)) (256 * (t.val % 8))) (n : ℕ) (hn : n < cfg0.N) :
    Left P (fun g => X (2 * (n / 8) + g.val)) (256 * (n % 8)) (outsAt0 V c n hn) := by
  induction n with
  | zero => exact left_A hf (B ⟨0, hn⟩) (Nat.zero_mod _)
  | succ n ih =>
    have Bt := B ⟨n + 1, hn⟩
    have ihn := ih (Nat.lt_of_succ_lt hn)
    by_cases h0 : (n + 1) % 8 = 0
    · rw [outsAt0_A V c ⟨n + 1, hn⟩ h0]
      simp only [h0, Nat.mul_zero] at Bt ⊢
      exact left_A hf Bt h0
    · rw [outsAt0_B V c ⟨n + 1, hn⟩ h0]
      refine left_B hf Bt h0 _ _ ?_
      have e1 : (n + 1) / 8 = n / 8 := by omega
      have e2 : 256 * ((n + 1) % 8) = 256 * (n % 8) + 256 := by omega
      rw [e1, e2]
      exact ihn.scr

end Cert.KernelIdeal.Hand
-- ==== Proof.KernelIdeal.HawkArray.lean ====
module

public import proofs.«01_k».proof.Proof.KernelIdeal.HawkValue
public import Idealize.ShloMosaic.Lib.Pipeline.ValueKit.Geometry

@[expose] public section

set_option maxRecDepth 16384

noncomputable section

/-! # What the first call leaves in its result array -/

namespace Cert.KernelIdeal.Hand

open Idealize.ShloMosaic Idealize.ShloMosaic.TcCoe Cert.KernelIdeal Cert.KernelIdeal.Gen Cert.Spec
open Idealize.ShloMosaic.ValueKit

variable (V : (c : Dev nD) → (b : Ref sig .tc) → Buf (Elt Ideal) ((c : Thread nD τ).loc b)) (c : Dev nD)

/-- The first call's arrays: the parameters, and the sequences' rows. -/
structure Arrays (P : Par) (X : ℕ → ℕ → Fin 1024 → EReal) : Prop where
  x : ∀ (b : Fin 4) (t : Fin 2048) (k : Fin 1024), (V c main_arg0 : Vec Ideal S4x2048x1024 .f32) (ix3 b t k) = X b.val t.val k
  g : ∀ k : Fin 1024, (V c main_call0_v16 : Vec Ideal S1x1024 .f32) (ix2 0 k) = P.gam k
  w : ∀ (k : Fin 1024) (o : Fin 3072), (V c main_call0_v1 : Vec Ideal S1024x3072 .bf16) (ix2 k o) = P.win o k
  cw : ∀ (i : Fin 4) (j : Fin 1536), (V c main_call0_v12 : Vec Ideal S8x1536 .f32) (ix2 ⟨i.val, by omega⟩ j) = P.cw j i
  cb : ∀ j : Fin 1536, (V c main_call0_v13 : Vec Ideal S1x1536 .f32) (ix2 0 j) = P.cb j
  wg : ∀ (k : Fin 1536) (o : Fin 3072), (V c main_call0_v3 : Vec Ideal S1536x3072 .bf16) (ix2 k o) = P.wg o k
  bg : ∀ o : Fin 3072, (V c main_call0_v14 : Vec Ideal S1x3072 .f32) (ix2 0 o) = P.bg o
  fb : ∀ j : Fin 1536, (V c main_call0_v15 : Vec Ideal S1x1536 .f32) (ix2 0 j) = P.fb j
  wo : ∀ (j : Fin 1536) (k : Fin 1024), (V c main_call0_v5 : Vec Ideal S1536x1024 .bf16) (ix2 j k) = P.wo k j

/-- Where a grid point finds its block of the input rows. -/
theorem idx0_0 : ∀ t : Fin cfg0.N, win0_0.index t = ![t.val / 8, t.val % 8, 0] := (by decide +kernel : ∀ t : Fin grid0.N, win0_0.index t = ![t.val / 8, t.val % 8, 0])
/-- Where a grid point finds its block of the scale of the first normalisation. -/
theorem idx0_1 : ∀ t : Fin cfg0.N, win0_1.index t = ![0, 0] := (by decide +kernel : ∀ t : Fin grid0.N, win0_1.index t = ![0, 0])
/-- Where a grid point finds its block of the input projection. -/
theorem idx0_2 : ∀ t : Fin cfg0.N, win0_2.index t = ![0, 0] := (by decide +kernel : ∀ t : Fin grid0.N, win0_2.index t = ![0, 0])
/-- Where a grid point finds its block of the convolution taps. -/
theorem idx0_3 : ∀ t : Fin cfg0.N, win0_3.index t = ![0, 0] := (by decide +kernel : ∀ t : Fin grid0.N, win0_3.index t = ![0, 0])
/-- Where a grid point finds its block of the convolution bias. -/
theorem idx0_4 : ∀ t : Fin cfg0.N, win0_4.index t = ![0, 0] := (by decide +kernel : ∀ t : Fin grid0.N, win0_4.index t = ![0, 0])
/-- Where a grid point finds its block of the gate weights. -/
theorem idx0_5 : ∀ t : Fin cfg0.N, win0_5.index t = ![0, 0] := (by decide +kernel : ∀ t : Fin grid0.N, win0_5.index t = ![0, 0])
/-- Where a grid point finds its block of the gate bias. -/
theorem idx0_6 : ∀ t : Fin cfg0.N, win0_6.index t = ![0, 0] := (by decide +kernel : ∀ t : Fin grid0.N, win0_6.index t = ![0, 0])
/-- Where a grid point finds its block of the forget base. -/
theorem idx0_7 : ∀ t : Fin cfg0.N, win0_7.index t = ![0, 0] := (by decide +kernel : ∀ t : Fin grid0.N, win0_7.index t = ![0, 0])
/-- Where a grid point finds its block of the output projection. -/
theorem idx0_8 : ∀ t : Fin cfg0.N, win0_8.index t = ![0, 0] := (by decide +kernel : ∀ t : Fin grid0.N, win0_8.index t = ![0, 0])
/-- Where a grid point finds its block of the output rows. -/
theorem idx0_9 : ∀ t : Fin cfg0.N, win0_9.index t = ![t.val / 8, t.val % 8, 0] := (by decide +kernel : ∀ t : Fin grid0.N, win0_9.index t = ![t.val / 8, t.val % 8, 0])

section At

variable (t : Fin cfg0.N)

/-- The block of the input rows, read from the array. -/
theorem blk0_0_at (g : Fin 2) (r : Fin 256) (k : Fin 1024) (b : Fin 4) (s : Fin 2048) (hb : b.val = 2 * (t.val / 8) + g.val) (hs : s.val = 256 * (t.val % 8) + r.val) :
    (iblk0 V c 0 t : Vec Ideal S2x256x1024 .f32) (ix3 g r k) = (V c main_arg0 : Vec Ideal S4x2048x1024 .f32) (ix3 b s k) := by
  blk_simp [iblk0]
  refine congrArg (V c main_arg0) ?_
  blk_ext [idx0_0]

/-- The block of the scale of the first normalisation, read from the array. -/
theorem blk0_1_at (k : Fin 1024) : (iblk0 V c 1 t : Vec Ideal S1x1024 .f32) (ix2 0 k) = (V c main_call0_v16 : Vec Ideal S1x1024 .f32) (ix2 0 k) := by
  blk_simp [iblk0]
  refine congrArg (V c main_call0_v16) ?_
  blk_ext [idx0_1]

/-- The block of the input projection, read from the array. -/
theorem blk0_2_at (k : Fin 1024) (o : Fin 3072) : (iblk0 V c 2 t : Vec Ideal S1024x3072 .bf16) (ix2 k o) = (V c main_call0_v1 : Vec Ideal S1024x3072 .bf16) (ix2 k o) := by
  blk_simp [iblk0]
  refine congrArg (V c main_call0_v1) ?_
  blk_ext [idx0_2]

/-- The block of the convolution taps, read from the array. -/
theorem blk0_3_at (k : Fin 8) (o : Fin 1536) : (iblk0 V c 3 t : Vec Ideal S8x1536 .f32) (ix2 k o) = (V c main_call0_v12 : Vec Ideal S8x1536 .f32) (ix2 k o) := by
  blk_simp [iblk0]
  refine congrArg (V c main_call0_v12) ?_
  blk_ext [idx0_3]

/-- The block of the convolution bias, read from the array. -/
theorem blk0_4_at  (o : Fin 1536) : (iblk0 V c 4 t : Vec Ideal S1x1536 .f32) (ix2 0 o) = (V c main_call0_v13 : Vec Ideal S1x1536 .f32) (ix2 0 o) := by
  blk_simp [iblk0]
  refine congrArg (V c main_call0_v13) ?_
  blk_ext [idx0_4]

/-- The block of the gate weights, read from the array. -/
theorem blk0_5_at (k : Fin 1536) (o : Fin 3072) : (iblk0 V c 5 t : Vec Ideal S1536x3072 .bf16) (ix2 k o) = (V c main_call0_v3 : Vec Ideal S1536x3072 .bf16) (ix2 k o) := by
  blk_simp [iblk0]
  refine congrArg (V c main_call0_v3) ?_
  blk_ext [idx0_5]

/-- The block of the gate bias, read from the array. -/
theorem blk0_6_at  (o : Fin 3072) : (iblk0 V c 6 t : Vec Ideal S1x3072 .f32) (ix2 0 o) = (V c main_call0_v14 : Vec Ideal S1x3072 .f32) (ix2 0 o) := by
  blk_simp [iblk0]
  refine congrArg (V c main_call0_v14) ?_
  blk_ext [idx0_6]

/-- The block of the forget base, read from the array. -/
theorem blk0_7_at  (o : Fin 1536) : (iblk0 V c 7 t : Vec Ideal S1x1536 .f32) (ix2 0 o) = (V c main_call0_v15 : Vec Ideal S1x1536 .f32) (ix2 0 o) := by
  blk_simp [iblk0]
  refine congrArg (V c main_call0_v15) ?_
  blk_ext [idx0_7]

/-- The block of the output projection, read from the array. -/
theorem blk0_8_at (k : Fin 1536) (o : Fin 1024) : (iblk0 V c 8 t : Vec Ideal S1536x1024 .bf16) (ix2 k o) = (V c main_call0_v5 : Vec Ideal S1536x1024 .bf16) (ix2 k o) := by
  blk_simp [iblk0]
  refine congrArg (V c main_call0_v5) ?_
  blk_ext [idx0_8]

end At

variable {V c} {P : Par} {X : ℕ → ℕ → Fin 1024 → EReal}

/-- So the blocks at a point are the parameters, and 256 rows of its two sequences. -/
theorem blocks_of (A : Arrays V c P X) (t : Fin cfg0.N) : Blocks V c t P (fun g => X (2 * (t.val / 8) + g.val)) (256 * (t.val % 8)) where
  x g r k := by
    have ht : t.val < 16 := Nat.lt_of_lt_of_eq t.isLt N_0
    exact (blk0_0_at V c t g r k ⟨2 * (t.val / 8) + g.val, by omega⟩ ⟨256 * (t.val % 8) + r.val, by omega⟩ rfl rfl).trans (A.x _ _ k)
  g k := (blk0_1_at V c t k).trans (A.g k)
  w k o := (blk0_2_at V c t k o).trans (A.w k o)
  cw i j := (blk0_3_at V c t ⟨i.val, by omega⟩ j).trans (A.cw i j)
  cb j := (blk0_4_at V c t j).trans (A.cb j)
  wg k o := (blk0_5_at V c t k o).trans (A.wg k o)
  bg o := (blk0_6_at V c t o).trans (A.bg o)
  fb j := (blk0_7_at V c t j).trans (A.fb j)
  wo j k := (blk0_8_at V c t j k).trans (A.wo j k)

/-- The first call's result: every row with its recurrent half added. -/
def hawkOut (P : Par) (X : ℕ → ℕ → Fin 1024 → EReal) : Vec Ideal S4x2048x1024 .f32 :=
  fun i => mixed P (X (i 0).val) (i 1).val (i 2)

/-- The first call's target array at an index: a mixed row. -/
theorem hawkOut_at (P : Par) (X : ℕ → ℕ → Fin 1024 → EReal) (b : Fin 4) (t : Fin 2048) (k : Fin 1024) :
    hawkOut P X (ix3 b t k) = mixed P (X b.val) t.val k := rfl

/-- The first call leaves the mixed rows of every sequence. -/
theorem hawk_array (A : Arrays V c P X) (hf : ∀ j, P.fb j < ⊤) : (dat0 V c).arrAt 9 cfg0.N = hawkOut P X := by
  refine (dat0 V c).arrAt_eq_of_covers 9 _ (by decide +kernel) fun t hfl y => ?_
  blk_simp
  rw [after0_9]
  have ht : t.val < 16 := Nat.lt_of_lt_of_eq t.isLt N_0
  obtain ⟨g, r, k, rfl⟩ : ∃ (g : Fin 2) (r : Fin 256) (k : Fin 1024), y = ix3 g r k := ⟨y 0, y 1, y 2, eq_ix3 y⟩
  refine ((left_at V c P X hf (blocks_of A) t.val t.isLt).out g r k).trans ?_
  refine (hawkOut_at P X ⟨2 * (t.val / 8) + g.val, by omega⟩ ⟨256 * (t.val % 8) + r.val, by omega⟩ k).symm.trans ?_
  refine congrArg (hawkOut P X) ?_
  blk_ext [idx0_9]

end Cert.KernelIdeal.Hand
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.RegionsLoop
public import Idealize.ShloMosaic.Lib.Pipeline.FrameSuffix

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__mlp_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The first block's rows, in the input and the output. -/
abbrev r1_0 : Rect S2x256x1024 := Rect.unit (s := S2x256x1024) ![0, 0, 0] S1x256x1024.size inb_S2x256x1024_S1x256x1024_0_0_0
/-- The whole row of scales. -/
abbrev r1_1 : Rect S1x1024 := Rect.unit (s := S1x1024) ![0, 0] S1x1024.size inb_S1x1024_S1x1024_0_0
/-- The whole of the growing weights. -/
abbrev r1_2 : Rect S1024x4096 := Rect.unit (s := S1024x4096) ![0, 0] S1024x4096.size inb_S1024x4096_S1024x4096_0_0
/-- The whole of the shrinking weights. -/
abbrev r1_3 : Rect S2048x1024 := Rect.unit (s := S2048x1024) ![0, 0] S2048x1024.size inb_S2048x1024_S2048x1024_0_0
/-- The second block's rows. -/
abbrev r1_4 : Rect S2x256x1024 := Rect.unit (s := S2x256x1024) ![1, 0, 0] S1x256x1024.size inb_S2x256x1024_S1x256x1024_1_0_0

/-! ## What the body leaves in each output window's buffer -/

/-- Window 4's staging buffer after the body, from the input windows' blocks: its 2 stores as pieces, LAST
    FIRST (Lib/Pipeline/FrameBody.lean `View.canon`; the payloads are the skeleton's). -/
def out1_4 (x0 : Vec F S2x256x1024 .f32) (x1 : Vec F S1x1024 .f32) (x2 : Vec F S1024x4096 .bf16) (x3 : Vec F S2048x1024 .bf16) : Vec F S2x256x1024 .f32 :=
  View.canon [⟨r1_4, k1_pay1 (View.ld x0 r1_4) (View.ld x1 r1_1) (View.ld x2 r1_2) (View.ld x3 r1_3)⟩,
    ⟨r1_0, k1_pay2 (View.ld x0 r1_0) (View.ld x1 r1_1) (View.ld x2 r1_2) (View.ld x3 r1_3)⟩]

/-- Its stores tile the buffer (checked by evaluation), so they cover it. -/
theorem cover1_4 (p0 : Vec F S1x256x1024 .f32) (p1 : Vec F S1x256x1024 .f32) (y : S2x256x1024.Idx) :
    ∃ pc ∈ ([⟨r1_4, p0⟩, ⟨r1_0, p1⟩] : List (View.Piece (Elt F) S2x256x1024 .f32)), y ∈ pc.1.set :=
  View.cover_of_tiled [⟨r1_4, p0⟩, ⟨r1_0, p1⟩] S1x256x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S2x256x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S2048x1024 .bf16) (harg4 : arg4.IsWhole) (arg5 : Memref sig .tc .vmem S2x256x1024 .f32) (harg5 : arg5.IsWhole)
    (x0 : Vec F S2x256x1024 .f32) (x1 : Vec F S1x1024 .f32) (x2 : Vec F S1024x4096 .bf16) (x3 : Vec F S2048x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__mlp_kernel i arg1 harg1 arg2 harg2 arg3 harg3 arg4 harg4 arg5 harg5) K := by
  simp only [cc1__mlp_kernel_eq_skeleton]; unfold cc1__mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- What the body leaves in the staging buffer of the scale of the second normalisation. -/
theorem after1_1 (c : Dev nD) (t : Fin cfg1.N) : (dat1 V c).after 1 t = iblk1 V c 1 t := by dsimp only [dat1]
/-- What the body leaves in the staging buffer of the growing weights. -/
theorem after1_2 (c : Dev nD) (t : Fin cfg1.N) : (dat1 V c).after 2 t = iblk1 V c 2 t := by dsimp only [dat1]
/-- What the body leaves in the staging buffer of the shrinking weights. -/
theorem after1_3 (c : Dev nD) (t : Fin cfg1.N) : (dat1 V c).after 3 t = iblk1 V c 3 t := by dsimp only [dat1]
/-- What the body leaves in the staging buffer of the output rows. -/
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body finds in the staging buffer of the scale of the second normalisation. -/
theorem before1_1 (c : Dev nD) (t : Fin cfg1.N) (d) : (dat1 V c).before 1 t d = iblk1 V c 1 t :=
  before1_1_of V (dat1 V c) (A_eq1 V c 1) (after1_1 V c) t d
/-- What the body finds in the staging buffer of the growing weights. -/
theorem before1_2 (c : Dev nD) (t : Fin cfg1.N) (d) : (dat1 V c).before 2 t d = iblk1 V c 2 t :=
  before1_2_of V (dat1 V c) (A_eq1 V c 2) (after1_2 V c) t d
/-- What the body finds in the staging buffer of the shrinking weights. -/
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand

end
-- ==== Proof.KernelIdeal.MlpValue.lean ====
module

public import proofs.«01_k».proof.Proof.KernelIdeal.Region1
public import proofs.«01_k».proof.Proof.Math.Scalars
public import Idealize.ShloMosaic.Lib.Pointwise
public import Idealize.ShloMosaic.Lib.Pipeline.ValueKit.Geometry

@[expose] public section

set_option maxRecDepth 16384

noncomputable section

/-! # The second call: the gated multilayer half, block by block -/

namespace Cert.KernelIdeal.Hand

open Idealize.ShloMosaic Idealize.ShloMosaic.TcCoe Cert.KernelIdeal Cert.KernelIdeal.Gen Cert.Spec
open Idealize.ShloMosaic.ValueKit

section Pays

variable {P : Par} {g : Vec Ideal S1x1024 .f32} {w : Vec Ideal S1024x4096 .bf16} {s : Vec Ideal S2048x1024 .bf16} (x : Vec Ideal S1x256x1024 .f32)
  (hg : ∀ k : Fin 1024, g (ix2 0 k) = P.gam2 k) (hw : ∀ (k : Fin 1024) (o : Fin 4096), w (ix2 k o) = P.wgrow o k)
  (hs : ∀ (j : Fin 2048) (k : Fin 1024), s (ix2 j k) = P.wsh k j)
include hg hw hs

/-- Each of the body's two stored blocks is the half's mathematics on its rows. -/
theorem k1_pay2_at (r : Fin 256) (k : Fin 1024) : k1_pay2 x g w s (ix3 0 r k) = mlp P (fun l => x (ix3 0 r l)) k := by
  pointwise [k1_pay2]
  simp only [hg, hw, hs, ofBits_32]
  unfold mlp gelu normed
  refine congrArg (x (ix3 0 r k) + ·) (Finset.sum_congr rfl fun j _ => ?_)
  simp only [Nat.add_comm 2048]
  rfl

/-- The second block's stored rows are the MLP of its loads. -/
theorem k1_pay1_at (r : Fin 256) (k : Fin 1024) : k1_pay1 x g w s (ix3 0 r k) = mlp P (fun l => x (ix3 0 r l)) k := by
  pointwise [k1_pay1]
  simp only [hg, hw, hs, ofBits_32]
  unfold mlp gelu normed
  refine congrArg (x (ix3 0 r k) + ·) (Finset.sum_congr rfl fun j _ => ?_)
  simp only [Nat.add_comm 2048]
  rfl

end Pays

section Block

variable (x0 : Vec Ideal S2x256x1024 .f32)

/-- The body's loads at an index. -/
theorem ld_rows0 (r : Fin 256) (k : Fin 1024) : View.ld (e' := .f32) (Val := Elt Ideal) x0 r1_0 (ix3 0 r k) = x0 (ix3 0 r k) := by
  refine congrArg x0 (funext fun a => Fin.ext ?_)
  match a with
  | ⟨0, _⟩ => rfl
  | ⟨1, _⟩ => show 0 + 1 * r.val = r.val; omega
  | ⟨2, _⟩ => show 0 + 1 * k.val = k.val; omega

/-- The second block's rows, as loaded. -/
theorem ld_rows1 (r : Fin 256) (k : Fin 1024) : View.ld (e' := .f32) (Val := Elt Ideal) x0 r1_4 (ix3 0 r k) = x0 (ix3 1 r k) := by
  refine congrArg x0 (funext fun a => Fin.ext ?_)
  match a with
  | ⟨0, _⟩ => rfl
  | ⟨1, _⟩ => show 0 + 1 * r.val = r.val; omega
  | ⟨2, _⟩ => show 0 + 1 * k.val = k.val; omega

/-- The loaded scales are the whole block. -/
theorem ld_gam (x1 : Vec Ideal S1x1024 .f32) : View.ld (e' := .f32) (Val := Elt Ideal) x1 r1_1 = x1 := View.ld_unit_zero (funext (by decide)) _ x1
/-- The loaded growing weights are the whole block. -/
theorem ld_grow (x2 : Vec Ideal S1024x4096 .bf16) : View.ld (e' := .bf16) (Val := Elt Ideal) x2 r1_2 = x2 := View.ld_unit_zero (funext (by decide)) _ x2
/-- The loaded shrinking weights are the whole block. -/
theorem ld_shrink (x3 : Vec Ideal S2048x1024 .bf16) : View.ld (e' := .bf16) (Val := Elt Ideal) x3 r1_3 = x3 := View.ld_unit_zero (funext (by decide)) _ x3

variable {P : Par} {x1 : Vec Ideal S1x1024 .f32} {x2 : Vec Ideal S1024x4096 .bf16} {x3 : Vec Ideal S2048x1024 .bf16}
  (hg : ∀ k : Fin 1024, x1 (ix2 0 k) = P.gam2 k) (hw : ∀ (k : Fin 1024) (o : Fin 4096), x2 (ix2 k o) = P.wgrow o k)
  (hs : ∀ (j : Fin 2048) (k : Fin 1024), x3 (ix2 j k) = P.wsh k j)
include hg hw hs

/-- The stored block at an index. -/
theorem out1_4_at (g : Fin 2) (r : Fin 256) (k : Fin 1024) : out1_4 x0 x1 x2 x3 (ix3 g r k) = mlp P (fun l => x0 (ix3 g r l)) k := by
  unfold out1_4
  rw [ld_gam, ld_grow, ld_shrink]
  match g with
  | 0 =>
    refine (View.canon_cons_of_not_mem _ _ ?_).trans ?_
    · exact Rect.not_mem_set_of_axis r1_4 _ (0 : Fin 3) 1 1 rfl rfl rfl (Or.inl Nat.zero_lt_one)
    · have e : (ix3 (n0 := 2) 0 r k) = r1_0.emb (ix3 (n0 := 1) 0 r k) := funext fun a => Fin.ext (by
        match a with
        | ⟨0, _⟩ => rfl
        | ⟨1, _⟩ => show r.val = 0 + 1 * r.val; omega
        | ⟨2, _⟩ => show k.val = 0 + 1 * k.val; omega)
      rw [e]
      refine (View.canon_cons_emb _ _ _ _).trans ((k1_pay2_at _ hg hw hs r k).trans ?_)
      exact congrArg (fun row => mlp P row k) (funext fun l => ld_rows0 x0 r l)
  | 1 =>
    have e : (ix3 (n0 := 2) 1 r k) = r1_4.emb (ix3 (n0 := 1) 0 r k) := funext fun a => Fin.ext (by
      match a with
      | ⟨0, _⟩ => rfl
      | ⟨1, _⟩ => show r.val = 0 + 1 * r.val; omega
      | ⟨2, _⟩ => show k.val = 0 + 1 * k.val; omega)
    rw [e]
    refine (View.canon_cons_emb _ _ _ _).trans ((k1_pay1_at _ hg hw hs r k).trans ?_)
    exact congrArg (fun row => mlp P row k) (funext fun l => ld_rows1 x0 r l)

end Block

section Array

variable (V : (c : Dev nD) → (b : Ref sig .tc) → Buf (Elt Ideal) ((c : Thread nD τ).loc b)) (c : Dev nD)

/-- Where a grid point finds its block of the input rows. -/
theorem idx1_0 : ∀ t : Fin cfg1.N, win1_0.index t = ![t.val, 0, 0] := (by decide +kernel : ∀ t : Fin grid1.N, win1_0.index t = ![t.val, 0, 0])
/-- Where a grid point finds its block of the scale of the second normalisation. -/
theorem idx1_1 : ∀ t : Fin cfg1.N, win1_1.index t = ![0, 0] := (by decide +kernel : ∀ t : Fin grid1.N, win1_1.index t = ![0, 0])
/-- Where a grid point finds its block of the growing weights. -/
theorem idx1_2 : ∀ t : Fin cfg1.N, win1_2.index t = ![0, 0] := (by decide +kernel : ∀ t : Fin grid1.N, win1_2.index t = ![0, 0])
/-- Where a grid point finds its block of the shrinking weights. -/
theorem idx1_3 : ∀ t : Fin cfg1.N, win1_3.index t = ![0, 0] := (by decide +kernel : ∀ t : Fin grid1.N, win1_3.index t = ![0, 0])
/-- Where a grid point finds its block of the output rows. -/
theorem idx1_4 : ∀ t : Fin cfg1.N, win1_4.index t = ![t.val, 0, 0] := (by decide +kernel : ∀ t : Fin grid1.N, win1_4.index t = ![t.val, 0, 0])

/-- The block of the input rows, read from the array. -/
theorem blk1_0_at (t : Fin cfg1.N) (g : Fin 2) (r : Fin 256) (k : Fin 1024) (b : Fin 32) (hb : b.val = 2 * t.val + g.val) :
    (iblk1 V c 0 t : Vec Ideal S2x256x1024 .f32) (ix3 g r k) = (V c main_call0_v19 : Vec Ideal S32x256x1024 .f32) (ix3 b r k) := by
  blk_simp [iblk1]
  refine congrArg (V c main_call0_v19) ?_
  blk_ext [idx1_0]

/-- The block of the scale of the second normalisation, read from the array. -/
theorem blk1_1_at (t : Fin cfg1.N) (k : Fin 1024) : (iblk1 V c 1 t : Vec Ideal S1x1024 .f32) (ix2 0 k) = (V c main_call0_v17 : Vec Ideal S1x1024 .f32) (ix2 0 k) := by
  blk_simp [iblk1]
  refine congrArg (V c main_call0_v17) ?_
  blk_ext [idx1_1]

/-- The block of the growing weights, read from the array. -/
theorem blk1_2_at (t : Fin cfg1.N) (k : Fin 1024) (o : Fin 4096) :
    (iblk1 V c 2 t : Vec Ideal S1024x4096 .bf16) (ix2 k o) = (V c main_call0_v7 : Vec Ideal S1024x4096 .bf16) (ix2 k o) := by
  blk_simp [iblk1]
  refine congrArg (V c main_call0_v7) ?_
  blk_ext [idx1_2]

/-- The block of the shrinking weights, read from the array. -/
theorem blk1_3_at (t : Fin cfg1.N) (k : Fin 2048) (o : Fin 1024) :
    (iblk1 V c 3 t : Vec Ideal S2048x1024 .bf16) (ix2 k o) = (V c main_call0_v9 : Vec Ideal S2048x1024 .bf16) (ix2 k o) := by
  blk_simp [iblk1]
  refine congrArg (V c main_call0_v9) ?_
  blk_ext [idx1_3]

/-- The second call's arrays: its parameters, and its rows `Y`. -/
structure Arrays1 (P : Par) (Y : Fin 32 → Fin 256 → Fin 1024 → EReal) : Prop where
  y : ∀ (b : Fin 32) (r : Fin 256) (k : Fin 1024), (V c main_call0_v19 : Vec Ideal S32x256x1024 .f32) (ix3 b r k) = Y b r k
  g : ∀ k : Fin 1024, (V c main_call0_v17 : Vec Ideal S1x1024 .f32) (ix2 0 k) = P.gam2 k
  w : ∀ (k : Fin 1024) (o : Fin 4096), (V c main_call0_v7 : Vec Ideal S1024x4096 .bf16) (ix2 k o) = P.wgrow o k
  s : ∀ (j : Fin 2048) (k : Fin 1024), (V c main_call0_v9 : Vec Ideal S2048x1024 .bf16) (ix2 j k) = P.wsh k j

/-- Its result: the half applied to every row. -/
def mlpOut (P : Par) (Y : Fin 32 → Fin 256 → Fin 1024 → EReal) : Vec Ideal S32x256x1024 .f32 := fun i => mlp P (Y (i 0) (i 1)) (i 2)

/-- The second call's target array at an index: an MLP row. -/
theorem mlpOut_at (P : Par) (Y : Fin 32 → Fin 256 → Fin 1024 → EReal) (b : Fin 32) (r : Fin 256) (k : Fin 1024) :
    mlpOut P Y (ix3 b r k) = mlp P (Y b r) k := rfl

variable {V c} {P : Par} {Y : Fin 32 → Fin 256 → Fin 1024 → EReal}

/-- The second call leaves the MLP of every row. -/
theorem mlp_array (A : Arrays1 V c P Y) : (dat1 V c).arrAt 4 cfg1.N = mlpOut P Y := by
  refine (dat1 V c).arrAt_eq_of_covers 4 _ (by decide +kernel) fun t hfl y => ?_
  blk_simp
  rw [after1_4]
  have ht : t.val < 16 := Nat.lt_of_lt_of_eq t.isLt N_1
  obtain ⟨g, r, k, rfl⟩ : ∃ (g : Fin 2) (r : Fin 256) (k : Fin 1024), y = ix3 g r k := ⟨y 0, y 1, y 2, eq_ix3 y⟩
  refine (out1_4_at _ (fun k => (blk1_1_at V c t k).trans (A.g k)) (fun k o => (blk1_2_at V c t k o).trans (A.w k o))
    (fun j k => (blk1_3_at V c t j k).trans (A.s j k)) g r k).trans ?_
  have e : (fun l => (iblk1 V c 0 t : Vec Ideal S2x256x1024 .f32) (ix3 g r l)) = Y ⟨2 * t.val + g.val, by omega⟩ r :=
    funext fun l => (blk1_0_at V c t g r l ⟨2 * t.val + g.val, by omega⟩ rfl).trans (A.y _ r l)
  rw [e]
  refine (mlpOut_at P Y ⟨2 * t.val + g.val, by omega⟩ r k).symm.trans ?_
  refine congrArg (mlpOut P Y) ?_
  blk_ext [idx1_4]

end Array

end Cert.KernelIdeal.Hand
-- ==== Proof.KernelIdeal.Run.lean ====
module

public import proofs.«01_k».proof.Proof.KernelIdeal.Region0
public import proofs.«01_k».proof.Proof.KernelIdeal.Region1
public import Idealize.ShloMosaic.Lib.Pipeline.RegionsLoop
public import Idealize.ShloMosaic.Lib.Pipeline.FrameSuffix

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_v2, main_call0_v3, main_call0_v4, main_call0_v5, main_call0_v6, main_call0_v7, main_call0_v8, main_call0_v9, main_call0_v10, main_call0_v11, main_call0_c, main_call0_call0_v0, main_call0_v12, main_call0_v13, main_call0_v14, main_call0_v15, main_call0_v16, main_call0_v17]
/-- The host operations before the first call write only the listed buffers. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v19]
/-- The host operations between the calls write only the listed buffers. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v0]
/-- The host operations after the second call write only the listed buffers. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The launch holds the arguments. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The host operations before the first call leave the arguments. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- The first call leaves each of its windows' arrays as its grid made it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves what is no array of its windows. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The first call leaves the arguments. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The first call changes nothing beside its windows' arrays. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The host operations between the calls leave the arguments. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- The second call leaves each of its windows' arrays as its grid made it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- The second call leaves what is no array of its windows. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The second call leaves the arguments. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The second call changes nothing beside its windows' arrays. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The last host operations leave the arguments. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- Argument 0 is at the end what it was at launch. -/
theorem W5_main_arg0 (c : Dev nD) : W5 m ρ c (Proc.devRef .tc main_arg0) = m ((c : Thread nD τ).loc main_arg0) :=
  W5_args m ρ c main_arg0 (by decide)
/-- Argument 1 is at the end what it was at launch. -/
theorem W5_main_arg1 (c : Dev nD) : W5 m ρ c (Proc.devRef .tc main_arg1) = m ((c : Thread nD τ).loc main_arg1) :=
  W5_args m ρ c main_arg1 (by decide)
/-- Argument 2 is at the end what it was at launch. -/
theorem W5_main_arg2 (c : Dev nD) : W5 m ρ c (Proc.devRef .tc main_arg2) = m ((c : Thread nD τ).loc main_arg2) :=
  W5_args m ρ c main_arg2 (by decide)
/-- Argument 3 is at the end what it was at launch. -/
theorem W5_main_arg3 (c : Dev nD) : W5 m ρ c (Proc.devRef .tc main_arg3) = m ((c : Thread nD τ).loc main_arg3) :=
  W5_args m ρ c main_arg3 (by decide)
/-- Argument 4 is at the end what it was at launch. -/
theorem W5_main_arg4 (c : Dev nD) : W5 m ρ c (Proc.devRef .tc main_arg4) = m ((c : Thread nD τ).loc main_arg4) :=
  W5_args m ρ c main_arg4 (by decide)
/-- Argument 5 is at the end what it was at launch. -/
theorem W5_main_arg5 (c : Dev nD) : W5 m ρ c (Proc.devRef .tc main_arg5) = m ((c : Thread nD τ).loc main_arg5) :=
  W5_args m ρ c main_arg5 (by decide)
/-- Argument 6 is at the end what it was at launch. -/
theorem W5_main_arg6 (c : Dev nD) : W5 m ρ c (Proc.devRef .tc main_arg6) = m ((c : Thread nD τ).loc main_arg6) :=
  W5_args m ρ c main_arg6 (by decide)
/-- Argument 7 is at the end what it was at launch. -/
theorem W5_main_arg7 (c : Dev nD) : W5 m ρ c (Proc.devRef .tc main_arg7) = m ((c : Thread nD τ).loc main_arg7) :=
  W5_args m ρ c main_arg7 (by decide)
/-- Argument 8 is at the end what it was at launch. -/
theorem W5_main_arg8 (c : Dev nD) : W5 m ρ c (Proc.devRef .tc main_arg8) = m ((c : Thread nD τ).loc main_arg8) :=
  W5_args m ρ c main_arg8 (by decide)
/-- Argument 9 is at the end what it was at launch. -/
theorem W5_main_arg9 (c : Dev nD) : W5 m ρ c (Proc.devRef .tc main_arg9) = m ((c : Thread nD τ).loc main_arg9) :=
  W5_args m ρ c main_arg9 (by decide)
/-- Argument 10 is at the end what it was at launch. -/
theorem W5_main_arg10 (c : Dev nD) : W5 m ρ c (Proc.devRef .tc main_arg10) = m ((c : Thread nD τ).loc main_arg10) :=
  W5_args m ρ c main_arg10 (by decide)
/-- Argument 11 is at the end what it was at launch. -/
theorem W5_main_arg11 (c : Dev nD) : W5 m ρ c (Proc.devRef .tc main_arg11) = m ((c : Thread nD τ).loc main_arg11) :=
  W5_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The run uses no variant. -/
abbrev 𝒱₀ : Variants := Variants.none
/-- No core owes another anything: no level is assigned. -/
abbrev L : GSem nD τ sig → Finset Unit := fun _ => ∅
/-- Every counter has level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates,
    nothing faulting, and every final state has the argument arrays as launched, the result array at `W5` and every semaphore
    counter at zero: the kit's launch over the segments, the last thread state read against the final state. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_v0) = W5 m ρ c (Proc.devRef .tc main_v0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       h c _ (mem_uc main_v0 (by decide))⟩), funext fun g => hz g (.inr (no_unscoped g.2))⟩)

/-- THE FRAME: the run without the result: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1⟩, h.2⟩) (run m ρ)

end Cert.KernelIdeal.Hand

end
-- ==== Proof.Math.Args.lean ====
module

public import proofs.«01_k».proof.Proof.Math.Spec
public import Idealize.ShloMosaic.Lib.ValueIdx

@[expose] public section

noncomputable section

/-! # The mathematics' data, of the argument arrays -/

namespace Cert.Spec

open Idealize.ShloMosaic

/-- The parameters as the two programs' arguments hold them, in order. -/
def parOf (a1 : Vec Ideal ⟨1, ![1024]⟩ .f32) (a2 : Vec Ideal ⟨2, ![3072, 1024]⟩ .f32) (a3 : Vec Ideal ⟨3, ![1536, 1, 4]⟩ .f32)
    (a4 : Vec Ideal ⟨1, ![1536]⟩ .f32) (a5 : Vec Ideal ⟨2, ![3072, 1536]⟩ .f32) (a6 : Vec Ideal ⟨1, ![3072]⟩ .f32)
    (a7 : Vec Ideal ⟨1, ![1536]⟩ .f32) (a8 : Vec Ideal ⟨2, ![1024, 1536]⟩ .f32) (a9 : Vec Ideal ⟨1, ![1024]⟩ .f32)
    (a10 : Vec Ideal ⟨2, ![4096, 1024]⟩ .f32) (a11 : Vec Ideal ⟨2, ![1024, 2048]⟩ .f32) : Par where
  gam k := a1 (ix1 k)
  win o k := a2 (ix2 o k)
  cw j i := a3 (ix3 j 0 i)
  cb j := a4 (ix1 j)
  wg o j := a5 (ix2 o j)
  bg o := a6 (ix1 o)
  fb j := a7 (ix1 j)
  wo k j := a8 (ix2 k j)
  gam2 k := a9 (ix1 k)
  wgrow o k := a10 (ix2 o k)
  wsh k j := a11 (ix2 k j)

/-- The rows of the four sequences, zero outside the array. -/
def rowsOf (a0 : Vec Ideal ⟨3, ![4, 2048, 1024]⟩ .f32) (b t : ℕ) (k : Fin 1024) : EReal :=
  if h : b < 4 ∧ t < 2048 then a0 (ix3 ⟨b, h.1⟩ ⟨t, h.2⟩ k) else 0

/-- A row of the argument, by batch and time. -/
theorem rowsOf_at (a0 : Vec Ideal ⟨3, ![4, 2048, 1024]⟩ .f32) (b : Fin 4) (t : Fin 2048) (k : Fin 1024) :
    rowsOf a0 b.val t.val k = a0 (ix3 b t k) := dif_pos ⟨b.isLt, t.isLt⟩

/-- What both programs compute: the multilayer half of the recurrent half, row by row. -/
def layer (P : Par) (X : ℕ → ℕ → Fin 1024 → EReal) : Vec Ideal ⟨3, ![4, 2048, 1024]⟩ .f32 :=
  fun i => mlp P (mixed P (X (i 0).val) (i 1).val) (i 2)

/-- The layer at an index: the MLP of the mixed row. -/
theorem layer_at (P : Par) (X : ℕ → ℕ → Fin 1024 → EReal) (b : Fin 4) (t : Fin 2048) (k : Fin 1024) :
    layer P X (ix3 b t k) = mlp P (mixed P (X b.val) t.val) k := rfl

end Cert.Spec

end
-- ==== Proof.KernelIdeal.Value.lean ====
module

public import proofs.«01_k».proof.Proof.KernelIdeal.HawkArray
public import proofs.«01_k».proof.Proof.KernelIdeal.MlpValue
public import proofs.«01_k».proof.Proof.KernelIdeal.Run
public import proofs.«01_k».proof.Proof.Math.Args
public import Idealize.ShloMosaic.Lib.StableHlo.ReadAt

@[expose] public section

set_option maxRecDepth 16384

noncomputable section

/-! # What the kernel computes: its host operations around the two calls -/

namespace Cert.KernelIdeal.Hand

open Idealize.ShloMosaic Idealize.ShloMosaic.TcCoe Idealize.ShloMosaic.StableHlo Cert.KernelIdeal Cert.KernelIdeal.Gen Cert.Spec
open Idealize.ShloMosaic.ValueKit

section Host

variable (U : Valuation τ sig (Elt Ideal))

/-! The parameters the first stretch prepares. -/

/-- The first scale, reshaped to a row. -/
theorem host_g (k : Fin 1024) : (after hostOps0 U (Proc.devRef .tc main_call0_v16) : Vec Ideal S1x1024 .f32) (ix2 0 k)
    = (U (Proc.devRef .tc main_arg1) : Vec Ideal S1024 .f32) (ix1 k) := by
  after_reads_at
/-- The second scale, reshaped to a row. -/
theorem host_g2 (k : Fin 1024) : (after hostOps0 U (Proc.devRef .tc main_call0_v17) : Vec Ideal S1x1024 .f32) (ix2 0 k)
    = (U (Proc.devRef .tc main_arg9) : Vec Ideal S1024 .f32) (ix1 k) := by
  after_reads_at
/-- The input projection, transposed. -/
theorem host_w (k : Fin 1024) (o : Fin 3072) : (after hostOps0 U (Proc.devRef .tc main_call0_v1) : Vec Ideal S1024x3072 .bf16) (ix2 k o)
    = (U (Proc.devRef .tc main_arg2) : Vec Ideal S3072x1024 .f32) (ix2 o k) := by
  after_reads_at
/-- The gate weights, transposed. -/
theorem host_wg (k : Fin 1536) (o : Fin 3072) : (after hostOps0 U (Proc.devRef .tc main_call0_v3) : Vec Ideal S1536x3072 .bf16) (ix2 k o)
    = (U (Proc.devRef .tc main_arg5) : Vec Ideal S3072x1536 .f32) (ix2 o k) := by
  after_reads_at
/-- The output projection, transposed. -/
theorem host_wo (j : Fin 1536) (k : Fin 1024) : (after hostOps0 U (Proc.devRef .tc main_call0_v5) : Vec Ideal S1536x1024 .bf16) (ix2 j k)
    = (U (Proc.devRef .tc main_arg8) : Vec Ideal S1024x1536 .f32) (ix2 k j) := by
  after_reads_at
/-- The growing weights, transposed. -/
theorem host_grow (k : Fin 1024) (o : Fin 4096) : (after hostOps0 U (Proc.devRef .tc main_call0_v7) : Vec Ideal S1024x4096 .bf16) (ix2 k o)
    = (U (Proc.devRef .tc main_arg10) : Vec Ideal S4096x1024 .f32) (ix2 o k) := by
  after_reads_at
/-- The shrinking weights, transposed. -/
theorem host_shrink (j : Fin 2048) (k : Fin 1024) : (after hostOps0 U (Proc.devRef .tc main_call0_v9) : Vec Ideal S2048x1024 .bf16) (ix2 j k)
    = (U (Proc.devRef .tc main_arg11) : Vec Ideal S1024x2048 .f32) (ix2 k j) := by
  after_reads_at
/-- The convolution's bias, reshaped to a row. -/
theorem host_cb (j : Fin 1536) : (after hostOps0 U (Proc.devRef .tc main_call0_v13) : Vec Ideal S1x1536 .f32) (ix2 0 j)
    = (U (Proc.devRef .tc main_arg4) : Vec Ideal S1536 .f32) (ix1 j) := by
  after_reads_at
/-- The gate bias, reshaped to a row. -/
theorem host_bg (o : Fin 3072) : (after hostOps0 U (Proc.devRef .tc main_call0_v14) : Vec Ideal S1x3072 .f32) (ix2 0 o)
    = (U (Proc.devRef .tc main_arg6) : Vec Ideal S3072 .f32) (ix1 o) := by
  after_reads_at
/-- The forget base, reshaped to a row. -/
theorem host_fb (j : Fin 1536) : (after hostOps0 U (Proc.devRef .tc main_call0_v15) : Vec Ideal S1x1536 .f32) (ix2 0 j)
    = (U (Proc.devRef .tc main_arg7) : Vec Ideal S1536 .f32) (ix1 j) := by
  after_reads_at
/-- The convolution's taps, one row for each, in the first four rows of eight. -/
theorem host_cw (j : Fin 1536) (i : Fin 4) :
    (after hostOps0 U (Proc.devRef .tc main_call0_v12) : Vec Ideal S8x1536 .f32) (ix2 ⟨i.val, by omega⟩ j)
      = (U (Proc.devRef .tc main_arg3) : Vec Ideal S1536x1x4 .f32) (ix3 j 0 i) := by
  after_reads_at

/-- The rows the second call takes: 32 blocks of 256, eight to a sequence. -/
theorem host_rows (b : Fin 32) (r : Fin 256) (k : Fin 1024) :
    (after hostOps1 U (Proc.devRef .tc main_call0_v19) : Vec Ideal S32x256x1024 .f32) (ix3 b r k)
      = (U (Proc.devRef .tc main_call0_v18) : Vec Ideal S4x2048x1024 .f32) (ix3 ⟨b.val / 8, by omega⟩ ⟨256 * (b.val % 8) + r.val, by omega⟩ k) := by
  after_reads_at
  simp only [Nat.mul_comm 256]

/-- The result: the second call's blocks, put back in sequence. -/
theorem host_result (b : Fin 4) (t : Fin 2048) (k : Fin 1024) :
    (after hostOps2 U (Proc.devRef .tc main_v0) : Vec Ideal S4x2048x1024 .f32) (ix3 b t k)
      = (U (Proc.devRef .tc main_call0_v20) : Vec Ideal S32x256x1024 .f32) (ix3 ⟨8 * b.val + t.val / 256, by omega⟩ ⟨t.val % 256, by omega⟩ k) := by
  after_reads_at
  simp only [Nat.mul_comm 8]

end Host

variable (m : (ℓ : Loc nD τ sig) → Buf (Elt Ideal) ℓ) (ρ : Dev nD → PrngReg) (c : Dev nD)

/-- The parameters and the rows the launch holds. -/
abbrev par : Par := parOf (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (m ((c.tc : Thread nD τ).loc main_arg9))
  (m ((c.tc : Thread nD τ).loc main_arg10)) (m ((c.tc : Thread nD τ).loc main_arg11))
/-- The input rows that the memory holds. -/
abbrev rows : ℕ → ℕ → Fin 1024 → EReal := rowsOf (m ((c.tc : Thread nD τ).loc main_arg0))

/-- What the first call finds. -/
theorem arrays0 : Arrays (V1 m ρ) c (par m c) (rows m c) where
  x b t k := (congrFun (W1_args m ρ c main_arg0 (by decide)) _).trans (rowsOf_at _ b t k).symm
  g k := host_g (W0 m ρ c) k
  w k o := host_w (W0 m ρ c) k o
  cw i j := host_cw (W0 m ρ c) j i
  cb j := host_cb (W0 m ρ c) j
  wg k o := host_wg (W0 m ρ c) k o
  bg o := host_bg (W0 m ρ c) o
  fb j := host_fb (W0 m ρ c) j
  wo j k := host_wo (W0 m ρ c) j k

/-- What no call's output is and no later host operation writes stays as the first stretch left it. -/
theorem W3_kept (r : Ref sig .tc) (h1 : r ∉ hostOps1_W) (h0 : ∀ w : Fin cfg0.W, Pipeline.arrRef spec0 w = r → (cfg0.win w).isOut = false) :
    W3 m ρ c (Proc.devRef .tc r) = W1 m ρ c (Proc.devRef .tc r) :=
  (W3_of m ρ c r h1).trans (W2_of m ρ c r h0)

/-- What the second call finds. -/
theorem arrays1 (hf : ∀ j, (par m c).fb j < ⊤) : Arrays1 (V3 m ρ) c (par m c)
    (fun b r k => mixed (par m c) (rows m c (b.val / 8)) (256 * (b.val % 8) + r.val) k) where
  y b r k := (host_rows (W2 m ρ c) b r k).trans (by
    have e : W2 m ρ c (Proc.devRef .tc main_call0_v18) = hawkOut (par m c) (rows m c) := (W2_arr m ρ c 9).trans (hawk_array (arrays0 m ρ c) hf)
    rw [e]
    exact hawkOut_at _ _ _ _ _)
  g k := (congrFun (W3_kept m ρ c main_call0_v17 (by decide) (by decide)) _).trans (host_g2 (W0 m ρ c) k)
  w k o := (congrFun (W3_kept m ρ c main_call0_v7 (by decide) (by decide)) _).trans (host_grow (W0 m ρ c) k o)
  s j k := (congrFun (W3_kept m ρ c main_call0_v9 (by decide) (by decide)) _).trans (host_shrink (W0 m ρ c) j k)

/-- The kernel's result is the layer. -/
theorem result (hf : ∀ j, (par m c).fb j < ⊤) :
    (W5 m ρ c (Proc.devRef .tc main_v0) : Vec Ideal S4x2048x1024 .f32) = layer (par m c) (rows m c) := by
  funext i
  obtain ⟨b, t, k, rfl⟩ : ∃ (b : Fin 4) (t : Fin 2048) (k : Fin 1024), i = ix3 b t k := ⟨i 0, i 1, i 2, eq_ix3 i⟩
  refine (host_result (W4 m ρ c) b t k).trans ?_
  have e := (W4_arr m ρ c 4).trans (mlp_array (arrays1 m ρ c hf))
  refine (congrFun e _).trans ((mlpOut_at _ _ _ _ _).trans ?_)
  rw [layer_at]
  have e1 : (8 * b.val + t.val / 256) / 8 = b.val := by omega
  have e2 : 256 * ((8 * b.val + t.val / 256) % 8) + t.val % 256 = t.val := by omega
  simp only [e1, e2]

end Cert.KernelIdeal.Hand
-- ==== Proof.Reference.Before.lean ====
module

public import proofs.«01_k».proof.Proof.Gen.ReferenceIdeal.Run
public import proofs.«01_k».proof.Proof.Math.Scalars
public import Idealize.ShloMosaic.Lib.StableHlo.ReadAt
public import Idealize.ShloMosaic.Lib.Pointwise

@[expose] public section

set_option maxRecDepth 16384

noncomputable section

/-! # The reference before its loop, stretch by stretch -/

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (U : Valuation τ sig (Elt Ideal)) (P : Par) (X : ℕ → ℕ → Fin 1024 → EReal)

/-- A lag read in the channels padded by `d'` zeros. -/
theorem lag_pad (P : Par) (X : ℕ → Fin 1024 → EReal) (t d d' : ℕ) (j : Fin 1536) : lag P X (t + d') (d + d') j = lag P X t d j := by
  unfold lag
  by_cases h : t < d
  · rw [if_pos h, if_pos (by omega)]
  · rw [if_neg h, if_neg (by omega), Nat.add_sub_add_right]

/-- The padded channels' weighted sum, oldest first, is the convolution. -/
theorem conv_of_padded (P : Par) (X : ℕ → Fin 1024 → EReal) (t : ℕ) (j : Fin 1536) :
    lag P X t 3 j * P.cw j 0 + lag P X (1 + t) 3 j * P.cw j 1 + lag P X (2 + t) 3 j * P.cw j 2 + lag P X (3 + t) 3 j * P.cw j 3
      + P.cb j = conv P X t j := by
  have h1 : lag P X (1 + t) 3 j = lag P X t 2 j := by rw [Nat.add_comm 1 t]; exact lag_pad P X t 2 1 j
  have h2 : lag P X (2 + t) 3 j = lag P X t 1 j := by rw [Nat.add_comm 2 t]; exact lag_pad P X t 1 2 j
  have h3 : lag P X (3 + t) 3 j = val P X t j := by rw [Nat.add_comm 3 t]; exact lag_pad P X t 0 3 j
  rw [h1, h2, h3, conv]
  congr 1
  abel

/-- The upper half of the first projection is the convolution's input. -/
theorem v16_at (hx : ∀ b t k, (U (Proc.devRef .tc main_arg0) : Vec Ideal S4x2048x1024 .f32) (ix3 b t k) = X b.val t.val k)
    (hg : ∀ k, (U (Proc.devRef .tc main_arg1) : Vec Ideal S1024 .f32) (ix1 k) = P.gam k)
    (hw : ∀ o k, (U (Proc.devRef .tc main_arg2) : Vec Ideal S3072x1024 .f32) (ix2 o k) = P.win o k)
    (b : Fin 4) (t : Fin 2048) (j : Fin 1536) :
    (after hostOps0 U (Proc.devRef .tc main_v16) : Vec Ideal S4x2048x1536 .f32) (ix3 b t j) = val P (X b.val) t.val j := by
  after_reads_at
  simp only [Nat.add_comm 1536, hx, hg, hw]
  simp only [normed_eq P.gam (X b.val t.val)]
  rfl

/-- The lower half of the first projection is the gate. -/
theorem v15_at (hx : ∀ b t k, (U (Proc.devRef .tc main_arg0) : Vec Ideal S4x2048x1024 .f32) (ix3 b t k) = X b.val t.val k)
    (hg : ∀ k, (U (Proc.devRef .tc main_arg1) : Vec Ideal S1024 .f32) (ix1 k) = P.gam k)
    (hw : ∀ o k, (U (Proc.devRef .tc main_arg2) : Vec Ideal S3072x1024 .f32) (ix2 o k) = P.win o k)
    (b : Fin 4) (t : Fin 2048) (j : Fin 1536) :
    (after hostOps0 U (Proc.devRef .tc main_v15) : Vec Ideal S4x2048x1536 .f32) (ix3 b t j) = gate P (X b.val) t.val j := by
  after_reads_at
  simp only [hx, hg, hw]
  simp only [normed_eq P.gam (X b.val t.val)]
  rfl

/-- The padding's starting constant is the integer 32-bit zero. -/
theorem main_c_eq : after hostOps0 U (Proc.devRef .tc main_c) = (constantI S_ 32 0#32 : Vec Ideal S_ .i32) := by
  after_reads_simp

/-- The padded sequence: three zero rows, then the convolution's input. -/
theorem v17_at (hc : U (Proc.devRef .tc main_c) = (constantI S_ 32 0#32 : Vec Ideal S_ .i32))
    (hv : ∀ b t j, (U (Proc.devRef .tc main_v16) : Vec Ideal S4x2048x1536 .f32) (ix3 b t j) = val P (X b.val) t.val j)
    (b : Fin 4) (t : Fin 2051) (j : Fin 1536) :
    (after hostOps0_1 U (Proc.devRef .tc main_v17) : Vec Ideal S4x2051x1536 .f32) (ix3 b t j) = lag P (X b.val) t.val 3 j := by
  after_reads_at
  rw [hc]
  have h0 : (FloatOps.sitofp (F := Ideal) FTy.f32 (0#32 : BitVec 32)) = (0 : EReal) := by
    show (((0#32 : BitVec 32).toInt : ℝ) : EReal) = 0
    simp
  unfold lag
  by_cases h : t.val < 3
  · rw [if_pos h]
    exact (dif_neg (by omega)).trans h0
  · rw [if_neg h]
    exact (dif_pos (by omega)).trans (hv _ _ _)

/-- The convolution, as its four shifted products and the bias. -/
theorem v49_at
    (hv : ∀ b t j, (U (Proc.devRef .tc main_v17) : Vec Ideal S4x2051x1536 .f32) (ix3 b t j) = lag P (X b.val) t.val 3 j)
    (hcw : ∀ (j : Fin 1536) (i : Fin 4), (U (Proc.devRef .tc main_arg3) : Vec Ideal S1536x1x4 .f32) (ix3 j 0 i) = P.cw j i)
    (hcb : ∀ (j : Fin 1536), (U (Proc.devRef .tc main_arg4) : Vec Ideal S1536 .f32) (ix1 j) = P.cb j)
    (b : Fin 4) (t : Fin 2048) (j : Fin 1536) :
    (after hostOps0_2 U (Proc.devRef .tc main_v49) : Vec Ideal S4x2048x1536 .f32) (ix3 b t j) = conv P (X b.val) t.val j := by
  after_reads_at
  simp only [hv, hcw, hcb]
  exact conv_of_padded P _ _ _

/-- The lower half of the gates decides how much is forgotten. -/
theorem v54_at
    (hv : ∀ b t j, (U (Proc.devRef .tc main_v17) : Vec Ideal S4x2051x1536 .f32) (ix3 b t j) = lag P (X b.val) t.val 3 j)
    (hcw : ∀ (j : Fin 1536) (i : Fin 4), (U (Proc.devRef .tc main_arg3) : Vec Ideal S1536x1x4 .f32) (ix3 j 0 i) = P.cw j i)
    (hcb : ∀ (j : Fin 1536), (U (Proc.devRef .tc main_arg4) : Vec Ideal S1536 .f32) (ix1 j) = P.cb j)
    (hwg : ∀ (o : Fin 3072) (j : Fin 1536), (U (Proc.devRef .tc main_arg5) : Vec Ideal S3072x1536 .f32) (ix2 o j) = P.wg o j)
    (hbg : ∀ o : Fin 3072, (U (Proc.devRef .tc main_arg6) : Vec Ideal S3072 .f32) (ix1 o) = P.bg o)
    (b : Fin 4) (t : Fin 2048) (j : Fin 1536) :
    (after hostOps0_2 U (Proc.devRef .tc main_v54) : Vec Ideal S4x2048x1536 .f32) (ix3 b t j) = gates P (X b.val) t.val (lo1536 j) := by
  after_reads_at
  simp only [hv, hcw, hcb, hwg, hbg]
  simp only [conv_of_padded]
  rfl

/-- The upper half of the gates decides how much is let in. -/
theorem v55_at
    (hv : ∀ b t j, (U (Proc.devRef .tc main_v17) : Vec Ideal S4x2051x1536 .f32) (ix3 b t j) = lag P (X b.val) t.val 3 j)
    (hcw : ∀ (j : Fin 1536) (i : Fin 4), (U (Proc.devRef .tc main_arg3) : Vec Ideal S1536x1x4 .f32) (ix3 j 0 i) = P.cw j i)
    (hcb : ∀ (j : Fin 1536), (U (Proc.devRef .tc main_arg4) : Vec Ideal S1536 .f32) (ix1 j) = P.cb j)
    (hwg : ∀ (o : Fin 3072) (j : Fin 1536), (U (Proc.devRef .tc main_arg5) : Vec Ideal S3072x1536 .f32) (ix2 o j) = P.wg o j)
    (hbg : ∀ o : Fin 3072, (U (Proc.devRef .tc main_arg6) : Vec Ideal S3072 .f32) (ix1 o) = P.bg o)
    (b : Fin 4) (t : Fin 2048) (j : Fin 1536) :
    (after hostOps0_2 U (Proc.devRef .tc main_v55) : Vec Ideal S4x2048x1536 .f32) (ix3 b t j) = gates P (X b.val) t.val (hi1536 j) := by
  after_reads_at
  simp only [Nat.add_comm 1536, hv, hcw, hcb, hwg, hbg]
  simp only [conv_of_padded]
  rfl

/-- The softplus of the forget base. -/
theorem v56_at (hf : ∀ j, (U (Proc.devRef .tc main_arg7) : Vec Ideal S1536 .f32) (ix1 j) = P.fb j) (j : Fin 1536) :
    (after hostOps0_3 U (Proc.devRef .tc main_v56) : Vec Ideal S1536 .f32) (ix1 j) = Ideal.log1p (Ideal.exp (P.fb j)) := by
  after_reads_at
  simp only [hf]
  rw [if_neg (by simp)]
  exact softplus_eq _

/-- The decays, with time as the leading axis. -/
theorem v87_0_at (hs : ∀ j, (U (Proc.devRef .tc main_v56) : Vec Ideal S1536 .f32) (ix1 j) = Ideal.log1p (Ideal.exp (P.fb j)))
    (hr : ∀ b t j, (U (Proc.devRef .tc main_v54) : Vec Ideal S4x2048x1536 .f32) (ix3 b t j) = gates P (X b.val) t.val (lo1536 j))
    (b : Fin 4) (t : Fin 2048) (j : Fin 1536) :
    (after hostOps0_4 U (Proc.devRef .tc main_v87_0) : Vec Ideal S2048x4x1536 .f32) (ix3 t b j)
      = Ideal.exp (logDecay P (X b.val) t.val j) := by
  after_reads_at
  simp only [id]
  pointwise
  simp only [hs, hr]
  rfl

/-- The drives, with time as the leading axis. -/
theorem v87_1_at (hs : ∀ j, (U (Proc.devRef .tc main_v56) : Vec Ideal S1536 .f32) (ix1 j) = Ideal.log1p (Ideal.exp (P.fb j)))
    (hr : ∀ b t j, (U (Proc.devRef .tc main_v54) : Vec Ideal S4x2048x1536 .f32) (ix3 b t j) = gates P (X b.val) t.val (lo1536 j))
    (hi : ∀ b t j, (U (Proc.devRef .tc main_v55) : Vec Ideal S4x2048x1536 .f32) (ix3 b t j) = gates P (X b.val) t.val (hi1536 j))
    (hv : ∀ b t j, (U (Proc.devRef .tc main_v49) : Vec Ideal S4x2048x1536 .f32) (ix3 b t j) = conv P (X b.val) t.val j)
    (b : Fin 4) (t : Fin 2048) (j : Fin 1536) :
    (after hostOps0_4 U (Proc.devRef .tc main_v87_1) : Vec Ideal S2048x4x1536 .f32) (ix3 t b j)
      = drive P (X b.val) t.val j := by
  after_reads_at
  simp only [id]
  pointwise
  simp only [hs, hr, hi, hv]
  rw [exp_two_mul]
  rfl

/-- The loop starts from a zero state. -/
theorem v87_3_at (b : Fin 4) (j : Fin 1536) :
    (after hostOps0_4 U (Proc.devRef .tc main_v87_3) : Vec Ideal S4x1536 .f32) (ix2 b j) = (0 : EReal) := by
  after_reads_at
  simp only [id]
  pointwise

/-- The loop's counter starts at zero. -/
theorem v87_2_eq : after hostOps0_4 U (Proc.devRef .tc main_v87_2) = (constantI S_ 32 0#32 : Vec Ideal S_ .i32) := by
  after_reads_simp
  rfl

end Cert.ReferenceIdeal.Hand
-- ==== Proof.Reference.Frame.lean ====
module

public import proofs.«01_k».proof.Proof.Gen.ReferenceIdeal.Run
public import Idealize.ShloMosaic.Lib.Quiescent
public import Idealize.ShloMosaic.Lib.StableHlo.RunHlo

@[expose] public section

set_option maxRecDepth 16384

noncomputable section

/-! # What the reference leaves alone

No operation of the reference writes an argument, before the loop, in it or after it. The reference has no semaphore. -/

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- The reference each operation after the loop writes, in order. -/
abbrev postW : List (Ref sig .tc) := [main_v88, main_cst_13, main_v89, main_v90, main_v91, main_cst_14, main_v92, main_v93, main_v94, main_v95, main_v96, main_v97, main_v98, main_v99, main_cst_15, main_v100, main_v101, main_v102, main_cst_16, main_v103, main_v104, main_v105, main_cst_17, main_v106, main_v107, main_v108, main_v109, main_v110, main_v111, main_v112, main_v113, main_v114, main_v115, main_cst_18, main_v116, main_v117, main_v118, main_cst_19, main_v119, main_v120, main_v121, main_v122, main_v123, main_v124, main_v125]

/-- Each operation after the loop writes one of the listed buffers. -/
theorem post_writes : (hostOps0_5 : List (HloOp τ sig (Elt F))).Forall fun op => op.writes ⊆ (postW.map (Proc.devRef (τ := τ) .tc)).toFinset :=
  StableHlo.forall_writes_sub_of_map rfl

/-- The references the loop writes: the condition's and the five stretches of the body. -/
abbrev loopW : List (Ref sig .tc) := condOps_W ++ while0Ops0_W ++ while0Ops0_1_W ++ while0Ops0_2_W ++ while0Ops0_3_W ++ while0Ops0_4_W

/-- The references the stretches before the loop write. -/
abbrev preW : List (Ref sig .tc) := hostOps0_W ++ hostOps0_1_W ++ hostOps0_2_W ++ hostOps0_3_W ++ hostOps0_4_W

variable (m : (ℓ : Loc nD τ sig) → Buf (Elt F) ℓ) (ρ : Dev nD → PrngReg)

/-- A reference the loop does not write holds before the `k`-th trip what it held at the loop's entry. -/
theorem atK_keep (c : Dev nD) (b : Ref sig .tc) (hb : b ∉ loopW) :
    ∀ k, atK m k c (Proc.devRef .tc b) = entryContents preI m c (Proc.devRef .tc b)
  | 0 => rfl
  | k + 1 => by
    have hb' := hb
    simp only [loopW, List.mem_append, not_or] at hb'
    obtain ⟨⟨⟨⟨⟨h0, h1⟩, h2⟩, h3⟩, h4⟩, h5⟩ := hb'
    rw [show atK m (k + 1) c = afterL bodyI (after condOps (atK m k c)) from rfl]
    simp only [afterL_cons, afterL_nil]
    rw [after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0]
    exact atK_keep c b hb k

/-- A reference no stretch before the loop writes holds at the loop's entry what it held at the launch. -/
theorem entry_keep (c : Dev nD) (b : Ref sig .tc) (hb : b ∉ preW) :
    entryContents preI m c (Proc.devRef .tc b) = m (((c.tc : Thread nD τ)).loc b) := by
  simp only [preW, List.mem_append, not_or] at hb
  obtain ⟨⟨⟨⟨h0, h1⟩, h2⟩, h3⟩, h4⟩ := hb
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A reference neither the loop nor what follows writes holds at the return what it held at the loop's entry. -/
theorem final_keep (c : Dev nD) (b : Ref sig .tc) (h0 : b ∉ condOps_W) (h1 : b ∉ loopW) (h2 : b ∉ postW) :
    finalContents condOps preI bodyI postI 2048 m c (Proc.devRef .tc b) = entryContents preI m c (Proc.devRef .tc b) := by
  simp only [finalContents, afterL_cons, afterL_nil]
  rw [after_of_writes_sub hostOps0_5 _ post_writes h2, after_of_writes_sub condOps _ condOps_writes h0]
  exact atK_keep m c b h1 2048

/-- An argument holds at the return what it held at the launch. -/
theorem final_arg (c : Dev nD) (b : Ref sig .tc) (h0 : b ∉ condOps_W) (h1 : b ∉ loopW) (h2 : b ∉ postW) (h3 : b ∉ preW) :
    finalContents condOps preI bodyI postI 2048 m c (Proc.devRef .tc b) = m (((c.tc : Thread nD τ)).loc b) :=
  (final_keep m c b h0 h1 h2).trans (entry_keep m c b h3)

/-- The run of the reference: the result is what the stretch after the loop computes, the arguments are as launched, every
    counter is zero. -/
theorem run : θ_run (defs (F := F)) (onTc (τ := τ) (main (F := F))) ⟨m, fun _ => 0, ρ⟩
    (fun r => (∀ c : Dev nD,
      r.2.mem ((c.tc : Thread nD τ).loc main_v125) = finalContents condOps preI bodyI postI 2048 m c (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine θ_run_mono (run_fold m ρ) fun r hr => ⟨fun c => ?_, sem_eq_zero_of_no_sems (by decide) _⟩
  have key : ∀ b : Ref sig .tc, (Proc.devRef .tc b : DevRef τ sig).isScoped = false → b ∉ condOps_W → b ∉ loopW → b ∉ postW → b ∉ preW →
      r.2.mem ((c.tc : Thread nD τ).loc b) = m ((c.tc : Thread nD τ).loc b) :=
    fun b hs h0 h1 h2 h3 => (hr c b hs).trans (final_arg m c b h0 h1 h2 h3)
  refine ⟨hr c main_v125 (by decide), ?_⟩
  refine ⟨?_, ?_, ?_, ?_, ?_, ?_, ?_, ?_, ?_, ?_, ?_, ?_⟩ <;>
    exact key _ (by decide) (by decide) (by decide) (by decide +kernel) (by decide +kernel)

/-- The reference's frame. -/
theorem frame : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_mono (run m ρ) fun r hr => ⟨fun c => (hr.1 c).2, hr.2⟩

end Cert.ReferenceIdeal.Hand

end
-- ==== Proof.Reference.Loop.lean ====
module

public import proofs.«01_k».proof.Proof.Reference.Before
public import proofs.«01_k».proof.Proof.Reference.Frame
public import Idealize.ShloMosaic.Lib.DynamicIndex
public import Idealize.ShloMosaic.Lib.Pipeline.Value

@[expose] public section

set_option maxRecDepth 16384

noncomputable section

/-! # The reference's loop: one trip, then all of them -/

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

/-- A step's slot lies inside the array of states. -/
theorem slot_fits (k : Fin 2048) : S2048x4x1536.Slices ![k.val, 0, 0] S1x4x1536 := ⟨rfl, fun a => by
  have := k.isLt
  match a with
  | 0 => show k.val + 1 ≤ 2048; omega
  | 1 => show 0 + 4 ≤ 4; omega
  | 2 => show 0 + 1536 ≤ 1536; omega⟩

/-- A trip's arithmetic: slot `k` of the decays times the state, plus slot `k` of the drives. -/
theorem step_formula (k : Fin 2048) (start : Fin 3 → ℤ) (hs : ∀ a, start a = ((![k.val, 0, 0] : Fin 3 → ℕ) a : ℤ))
    (A B : Vec Ideal S2048x4x1536 .f32) (H : Vec Ideal S4x1536 .f32) (al h x : Fin 4 → Fin 1536 → EReal)
    (ha : ∀ b j, A (ix3 k b j) = al b j) (hh : ∀ b j, H (ix2 b j) = h b j) (hx : ∀ b j, B (ix3 k b j) = x b j) (b : Fin 4) (j : Fin 1536) :
    (addf (mulf (shapeCast S4x1536 (Host.dynamicSlice S1x4x1536 A start sliceFits_S2048x4x1536_S1x4x1536) shapeCasts_S1x4x1536_S4x1536) H)
      (shapeCast S4x1536 (Host.dynamicSlice S1x4x1536 B start sliceFits_S2048x4x1536_S1x4x1536) shapeCasts_S1x4x1536_S4x1536)
        : FVec Ideal S4x1536 .f32) (ix2 b j) = al b j * h b j + x b j := by
  rw [Host.dynamicSlice_eq_extractStridedSlice _ _ _ _ _ (slot_fits k) hs, Host.dynamicSlice_eq_extractStridedSlice _ _ _ _ _ (slot_fits k) hs]
  pointwise
  simp only [ha, hh, hx]

section Trip

variable (U : Valuation τ sig (Elt Ideal)) (k : Fin 2048) (hk : U (Proc.devRef .tc main_v87_2) = fun _ => Scf.iv 0#32 1#32 k.val)
include hk

/-- Where a trip reads and writes the stacked arrays: slot `k`. -/
theorem start_at (a : Fin 3) :
    (((![U (Proc.devRef .tc main_v87_2), constantI S_ 32 0#32, constantI S_ 32 0#32] : Fin 3 → (⟨S_, .i32⟩ : BufTy).Contents (Elt Ideal))) a
      (Shape.Idx.first h_S_)).toInt = ((![k.val, 0, 0] : Fin 3 → ℕ) a : ℤ) := by
  match a with
  | 0 =>
    show (U (Proc.devRef .tc main_v87_2) (Shape.Idx.first h_S_) : BitVec 32).toInt = (k.val : ℤ)
    rw [hk]
    have := k.isLt
    exact (Scf.toInt_iv (lb := 0#32) (ub := 2048#32) (st := 1#32) (by decide) (k := k.val) (by
      rw [show Scf.trips 0#32 2048#32 1#32 = 2048 by decide]; omega)).trans (by simp)
  | 1 => rfl
  | 2 => rfl

/-- The trip's state: decayed and driven. -/
theorem res_at (al h x : Fin 4 → Fin 1536 → EReal)
    (ha : ∀ b j, (U (Proc.devRef .tc main_v87_0) : Vec Ideal S2048x4x1536 .f32) (ix3 k b j) = al b j)
    (hh : ∀ b j, (U (Proc.devRef .tc main_v87_3) : Vec Ideal S4x1536 .f32) (ix2 b j) = h b j)
    (hx : ∀ b j, (U (Proc.devRef .tc main_v87_1) : Vec Ideal S2048x4x1536 .f32) (ix3 k b j) = x b j) (b : Fin 4) (j : Fin 1536) :
    (res_main_while0b_v129 U : Vec Ideal S4x1536 .f32) (ix2 b j) = al b j * h b j + x b j :=
  (step_formula k _ (start_at U k hk) (U (Proc.devRef .tc main_v87_0)) (U (Proc.devRef .tc main_v87_1)) (U (Proc.devRef .tc main_v87_3)) al h x ha hh hx b j)

/-- The trip's output: slot `k` takes the new state, the others stay. -/
theorem slot_at (s : Fin 2048) (b : Fin 4) (j : Fin 1536) :
    (step_main_v87_4 U : Vec Ideal S2048x4x1536 .f32) (ix3 s b j)
      = if s = k then (res_main_while0b_v129 U : Vec Ideal S4x1536 .f32) (ix2 b j)
        else (U (Proc.devRef .tc main_v87_4) : Vec Ideal S2048x4x1536 .f32) (ix3 s b j) := by
  have hs : S2048x4x1536.Slices ![k.val, 0, 0] S1x4x1536 := ⟨rfl, fun a => by
    have := k.isLt
    match a with
    | 0 => show k.val + 1 ≤ 2048; omega
    | 1 => show 0 + 4 ≤ 4; omega
    | 2 => show 0 + 1536 ≤ 1536; omega⟩
  unfold step_main_v87_4
  rw [id, Host.dynamicUpdateSlice_eq_updateSlice _ _ _ _ ![k.val, 0, 0] (fun a => by
    rw [start_at U k hk]
    have := k.isLt
    match a with
    | 0 => show (min (max (k.val : ℤ) 0) ((2048 - 1 : ℕ) : ℤ)).toNat = k.val; omega
    | 1 => rfl
    | 2 => rfl) hs]
  pointwise
  by_cases e : s = k
  · subst e
    rw [if_pos rfl]
    refine dif_pos fun a => ?_
    match a with
    | 0 => show s.val ≤ s.val ∧ s.val < s.val + 1; omega
    | 1 => show 0 ≤ b.val ∧ b.val < 0 + 4; omega
    | 2 => show 0 ≤ j.val ∧ j.val < 0 + 1536; omega
  · rw [if_neg e]
    refine dif_neg fun h => e (Fin.ext ?_)
    have h0 : k.val ≤ s.val ∧ s.val < k.val + 1 := h 0
    omega

end Trip

section Trips

variable (m : (ℓ : Loc nD τ sig) → Buf (Elt Ideal) ℓ) (c : Dev nD) (P : Par) (X : ℕ → ℕ → Fin 1024 → EReal)

/-- What the loop finds: the decays, the drives and a zero state. -/
structure Entry : Prop where
  decay : ∀ (t : Fin 2048) (b : Fin 4) (j : Fin 1536), (entryContents preI m c (Proc.devRef .tc main_v87_0) : Vec Ideal S2048x4x1536 .f32) (ix3 t b j)
    = Ideal.exp (logDecay P (X b.val) t.val j)
  drive : ∀ (t : Fin 2048) (b : Fin 4) (j : Fin 1536), (entryContents preI m c (Proc.devRef .tc main_v87_1) : Vec Ideal S2048x4x1536 .f32) (ix3 t b j)
    = Spec.drive P (X b.val) t.val j
  zero : ∀ (b : Fin 4) (j : Fin 1536), (entryContents preI m c (Proc.devRef .tc main_v87_3) : Vec Ideal S4x1536 .f32) (ix2 b j) = (0 : EReal)

variable {m c P X}

/-- One trip's contents of the two carried results. -/
theorem atK_succ_state (k : ℕ) : atK m (k + 1) c (Proc.devRef .tc main_v87_3) = res_main_while0b_v129 (atK m k c) :=
  (trip_main_v87_3 (after condOps (atK m k c))).trans (res_main_while0b_v129_congr (cond_keeps _))

/-- One more trip writes one more slot of the array of states. -/
theorem atK_succ_slots (k : ℕ) : atK m (k + 1) c (Proc.devRef .tc main_v87_4) = step_main_v87_4 (atK m k c) :=
  (trip_main_v87_4 (after condOps (atK m k c))).trans (step_main_v87_4_congr (cond_keeps _))

/-- The trip's new state, where the carried one is the recurrence's. -/
theorem next_at (E : Entry m c P X) (k : ℕ) (hk : k < 2048)
    (ih : ∀ (b : Fin 4) (j : Fin 1536), (atK m k c (Proc.devRef .tc main_v87_3) : Vec Ideal S4x1536 .f32) (ix2 b j) = state P (X b.val) k j)
    (b : Fin 4) (j : Fin 1536) :
    (res_main_while0b_v129 (atK m k c) : Vec Ideal S4x1536 .f32) (ix2 b j) = state P (X b.val) (k + 1) j :=
  res_at (atK m k c) ⟨k, hk⟩ (atK_ctr m c k) (fun b j => Ideal.exp (logDecay P (X b.val) k j)) (fun b j => state P (X b.val) k j)
    (fun b j => Spec.drive P (X b.val) k j)
    (fun b j => (congrFun (atK_keep m c main_v87_0 (by decide) k) _).trans (E.decay ⟨k, hk⟩ b j)) ih
    (fun b j => (congrFun (atK_keep m c main_v87_1 (by decide) k) _).trans (E.drive ⟨k, hk⟩ b j)) b j

/-- Before trip `k` the carried state is the recurrence's. -/
theorem state_at (E : Entry m c P X) : ∀ (k : ℕ), k ≤ 2048 → ∀ (b : Fin 4) (j : Fin 1536),
    (atK m k c (Proc.devRef .tc main_v87_3) : Vec Ideal S4x1536 .f32) (ix2 b j) = state P (X b.val) k j
  | 0, _, b, j => E.zero b j
  | k + 1, hk, b, j => (congrFun (atK_succ_state k) _).trans (next_at E k (by omega) (state_at E k (by omega)) b j)

/-- Before trip `k` the slots below `k` hold the states after their steps. -/
theorem slots_at (E : Entry m c P X) : ∀ (k : ℕ), k ≤ 2048 → ∀ (s : Fin 2048), s.val < k → ∀ (b : Fin 4) (j : Fin 1536),
    (atK m k c (Proc.devRef .tc main_v87_4) : Vec Ideal S2048x4x1536 .f32) (ix3 s b j) = state P (X b.val) (s.val + 1) j
  | 0, _, s, hs, _, _ => absurd hs (Nat.not_lt_zero _)
  | k + 1, hk, s, hs, b, j => by
    refine (congrFun (atK_succ_slots k) _).trans ((slot_at (atK m k c) ⟨k, by omega⟩ (atK_ctr m c k) s b j).trans ?_)
    by_cases e : s = ⟨k, by omega⟩
    · rw [if_pos e, next_at E k (by omega) (state_at E k (by omega)) b j, e]
    · rw [if_neg e]
      exact slots_at E k (by omega) s (by have : s.val ≠ k := fun h => e (Fin.ext h); omega) b j

end Trips

end Cert.ReferenceIdeal.Hand
-- ==== Proof.Reference.After.lean ====
module

public import proofs.«01_k».proof.Proof.Gen.ReferenceIdeal.Run
public import proofs.«01_k».proof.Proof.Math.Scalars
public import Idealize.ShloMosaic.Lib.StableHlo.ReadAt
public import Idealize.ShloMosaic.Lib.Pointwise

@[expose] public section

set_option maxRecDepth 16384

noncomputable section

/-! # The reference after its loop -/

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (U : Valuation τ sig (Elt Ideal)) (P : Par) (X : ℕ → ℕ → Fin 1024 → EReal)

/-- What the stretch after the loop reads. -/
structure Found : Prop where
  x : ∀ b t k, (U (Proc.devRef .tc main_arg0) : Vec Ideal S4x2048x1024 .f32) (ix3 b t k) = X b.val t.val k
  gate : ∀ b t j, (U (Proc.devRef .tc main_v15) : Vec Ideal S4x2048x1536 .f32) (ix3 b t j) = Spec.gate P (X b.val) t.val j
  slots : ∀ (s : Fin 2048) (b : Fin 4) (j : Fin 1536), (U (Proc.devRef .tc main_v87_4) : Vec Ideal S2048x4x1536 .f32) (ix3 s b j)
    = state P (X b.val) (s.val + 1) j
  wo : ∀ k j, (U (Proc.devRef .tc main_arg8) : Vec Ideal S1024x1536 .f32) (ix2 k j) = P.wo k j
  gam2 : ∀ k, (U (Proc.devRef .tc main_arg9) : Vec Ideal S1024 .f32) (ix1 k) = P.gam2 k
  wgrow : ∀ o k, (U (Proc.devRef .tc main_arg10) : Vec Ideal S4096x1024 .f32) (ix2 o k) = P.wgrow o k
  wsh : ∀ k j, (U (Proc.devRef .tc main_arg11) : Vec Ideal S1024x2048 .f32) (ix2 k j) = P.wsh k j

variable {U P X}

/-- The mixed row is the input plus the output projection of the gated states. -/
theorem mixed_fold (P : Par) (X : ℕ → Fin 1024 → EReal) (t : ℕ) (k : Fin 1024) :
    X t k + ∑ j, gelu (gate P X t j) * state P X (t + 1) j * P.wo k j = mixed P X t k := rfl

/-- The result, of what the loop leaves. -/
theorem v125_at (H : Found U P X) (b : Fin 4) (t : Fin 2048) (k : Fin 1024) :
    (after hostOps0_5 U (Proc.devRef .tc main_v125) : Vec Ideal S4x2048x1024 .f32) (ix3 b t k) = mlp P (mixed P (X b.val) t.val) k := by
  after_reads_at
  simp only [Nat.add_comm 2048, H.x, H.gate, H.slots, H.wo, H.gam2, H.wgrow, H.wsh]
  simp only [gelu_eq, mixed_fold P (X b.val) t.val]
  simp only [normed_eq P.gam2 (mixed P (X b.val) t.val)]
  rfl

end Cert.ReferenceIdeal.Hand
-- ==== Proof.Reference.Value.lean ====
module

public import proofs.«01_k».proof.Proof.Reference.Loop
public import proofs.«01_k».proof.Proof.Reference.After
public import proofs.«01_k».proof.Proof.Math.Args

@[expose] public section

set_option maxRecDepth 16384

noncomputable section

/-! # What the reference computes -/

namespace Cert.ReferenceIdeal.Hand

open Cert.ReferenceIdeal Cert.ReferenceIdeal.Gen Cert.ReferenceIdeal.Value Cert.Spec
open Idealize.ShloMosaic Idealize.ShloMosaic.TcCoe Idealize.ShloMosaic.StableHlo

variable (m : (ℓ : Loc nD τ sig) → Buf (Elt Ideal) ℓ) (c : Dev nD)

/-- The parameters and the rows the launch holds. -/
abbrev par : Par := parOf (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (m ((c.tc : Thread nD τ).loc main_arg9))
  (m ((c.tc : Thread nD τ).loc main_arg10)) (m ((c.tc : Thread nD τ).loc main_arg11))
/-- The input rows that the memory holds. -/
abbrev rows : ℕ → ℕ → Fin 1024 → EReal := rowsOf (m ((c.tc : Thread nD τ).loc main_arg0))

/-- The contents before each stretch. -/
abbrev E1 : Valuation τ sig (Elt Ideal) := after hostOps0 (launchContents m c)
/-- Contents after the second stretch of operations. -/
abbrev E2 : Valuation τ sig (Elt Ideal) := after hostOps0_1 (E1 m c)
/-- Contents after the third stretch. -/
abbrev E3 : Valuation τ sig (Elt Ideal) := after hostOps0_2 (E2 m c)
/-- Contents after the fourth stretch. -/
abbrev E4 : Valuation τ sig (Elt Ideal) := after hostOps0_3 (E3 m c)

/-- The first stretch leaves what it does not write. -/
theorem E1_of (r : Ref sig .tc) (h : r ∉ hostOps0_W) : E1 m c (Proc.devRef .tc r) = launchContents m c (Proc.devRef .tc r) :=
  after_of_writes_sub hostOps0 _ hostOps0_writes h
/-- The second stretch leaves what it does not write. -/
theorem E2_of (r : Ref sig .tc) (h : r ∉ hostOps0_1_W) : E2 m c (Proc.devRef .tc r) = E1 m c (Proc.devRef .tc r) :=
  after_of_writes_sub hostOps0_1 _ hostOps0_1_writes h
/-- The third stretch leaves what it does not write. -/
theorem E3_of (r : Ref sig .tc) (h : r ∉ hostOps0_2_W) : E3 m c (Proc.devRef .tc r) = E2 m c (Proc.devRef .tc r) :=
  after_of_writes_sub hostOps0_2 _ hostOps0_2_writes h
/-- The fourth stretch leaves what it does not write. -/
theorem E4_of (r : Ref sig .tc) (h : r ∉ hostOps0_3_W) : E4 m c (Proc.devRef .tc r) = E3 m c (Proc.devRef .tc r) :=
  after_of_writes_sub hostOps0_3 _ hostOps0_3_writes h

/-- The program starts with its input rows. -/
theorem launch_x (b : Fin 4) (t : Fin 2048) (k : Fin 1024) :
    (launchContents m c (Proc.devRef .tc main_arg0) : Vec Ideal S4x2048x1024 .f32) (ix3 b t k) = rows m c b.val t.val k := (rowsOf_at _ b t k).symm

/-- The padded sequence after the second stretch. -/
theorem E2_v17 (b : Fin 4) (t : Fin 2051) (j : Fin 1536) :
    (E2 m c (Proc.devRef .tc main_v17) : Vec Ideal S4x2051x1536 .f32) (ix3 b t j) = lag (par m c) (rows m c b.val) t.val 3 j :=
  v17_at (E1 m c) (par m c) (rows m c) (main_c_eq _)
    (v16_at (launchContents m c) (par m c) (rows m c) (launch_x m c) (fun _ => rfl) (fun _ _ => rfl)) b t j

/-- The convolution's taps are still the argument's. -/
theorem E2_arg3 (j : Fin 1536) (i : Fin 4) : (E2 m c (Proc.devRef .tc main_arg3) : Vec Ideal S1536x1x4 .f32) (ix3 j 0 i) = (par m c).cw j i :=
  congrFun ((E2_of m c main_arg3 (by decide)).trans (E1_of m c main_arg3 (by decide))) _
/-- The convolution's bias is still the argument's. -/
theorem E2_arg4 (j : Fin 1536) : (E2 m c (Proc.devRef .tc main_arg4) : Vec Ideal S1536 .f32) (ix1 j) = (par m c).cb j :=
  congrFun ((E2_of m c main_arg4 (by decide)).trans (E1_of m c main_arg4 (by decide))) _
/-- The gate weights are still the argument's. -/
theorem E2_arg5 (o : Fin 3072) (j : Fin 1536) : (E2 m c (Proc.devRef .tc main_arg5) : Vec Ideal S3072x1536 .f32) (ix2 o j) = (par m c).wg o j :=
  congrFun ((E2_of m c main_arg5 (by decide)).trans (E1_of m c main_arg5 (by decide))) _
/-- The gate bias is still the argument's. -/
theorem E2_arg6 (o : Fin 3072) : (E2 m c (Proc.devRef .tc main_arg6) : Vec Ideal S3072 .f32) (ix1 o) = (par m c).bg o :=
  congrFun ((E2_of m c main_arg6 (by decide)).trans (E1_of m c main_arg6 (by decide))) _

/-- The convolution, after the fourth stretch. -/
theorem E4_v49 (b : Fin 4) (t : Fin 2048) (j : Fin 1536) :
    (E4 m c (Proc.devRef .tc main_v49) : Vec Ideal S4x2048x1536 .f32) (ix3 b t j) = conv (par m c) (rows m c b.val) t.val j :=
  (congrFun (E4_of m c main_v49 (by decide)) _).trans
    (v49_at (E2 m c) (par m c) (rows m c) (E2_v17 m c) (E2_arg3 m c) (E2_arg4 m c) b t j)
/-- The forget gates, after the fourth stretch. -/
theorem E4_v54 (b : Fin 4) (t : Fin 2048) (j : Fin 1536) :
    (E4 m c (Proc.devRef .tc main_v54) : Vec Ideal S4x2048x1536 .f32) (ix3 b t j) = gates (par m c) (rows m c b.val) t.val (lo1536 j) :=
  (congrFun (E4_of m c main_v54 (by decide)) _).trans
    (v54_at (E2 m c) (par m c) (rows m c) (E2_v17 m c) (E2_arg3 m c) (E2_arg4 m c) (E2_arg5 m c) (E2_arg6 m c) b t j)
/-- The input gates, after the fourth stretch. -/
theorem E4_v55 (b : Fin 4) (t : Fin 2048) (j : Fin 1536) :
    (E4 m c (Proc.devRef .tc main_v55) : Vec Ideal S4x2048x1536 .f32) (ix3 b t j) = gates (par m c) (rows m c b.val) t.val (hi1536 j) :=
  (congrFun (E4_of m c main_v55 (by decide)) _).trans
    (v55_at (E2 m c) (par m c) (rows m c) (E2_v17 m c) (E2_arg3 m c) (E2_arg4 m c) (E2_arg5 m c) (E2_arg6 m c) b t j)
/-- The softplus of the forget base, after the fourth stretch. -/
theorem E4_v56 (j : Fin 1536) :
    (E4 m c (Proc.devRef .tc main_v56) : Vec Ideal S1536 .f32) (ix1 j) = Ideal.log1p (Ideal.exp ((par m c).fb j)) :=
  v56_at (E3 m c) (par m c) (fun _ => congrFun ((E3_of m c main_arg7 (by decide)).trans ((E2_of m c main_arg7 (by decide)).trans
    (E1_of m c main_arg7 (by decide)))) _) j

/-- What the loop finds. -/
theorem entry : Entry m c (par m c) (rows m c) where
  decay t b j := v87_0_at (E4 m c) (par m c) (rows m c) (E4_v56 m c) (E4_v54 m c) b t j
  drive t b j := v87_1_at (E4 m c) (par m c) (rows m c) (E4_v56 m c) (E4_v54 m c) (E4_v55 m c) (E4_v49 m c) b t j
  zero b j := v87_3_at (E4 m c) b j

/-- The contents the stretch after the loop starts from. -/
abbrev E6 : Valuation τ sig (Elt Ideal) := after condOps (atK m 2048 c)

/-- An argument there is as launched. -/
theorem E6_arg (r : Ref sig .tc) (h0 : r ∉ condOps_W) (h1 : r ∉ loopW) (h2 : r ∉ preW) :
    E6 m c (Proc.devRef .tc r) = m ((c.tc : Thread nD τ).loc r) :=
  (after_of_writes_sub condOps _ condOps_writes h0).trans ((atK_keep m c r h1 2048).trans (entry_keep m c r h2))

/-- The gate's channels at the loop's entry are the first stretch's. -/
theorem entry_v15 : entryContents preI m c (Proc.devRef .tc main_v15) = E1 m c (Proc.devRef .tc main_v15) := by
  simp only [entryContents, afterL_cons, afterL_nil]
  rw [after_of_writes_sub hostOps0_4 _ hostOps0_4_writes (by decide)]
  exact (E4_of m c main_v15 (by decide)).trans ((E3_of m c main_v15 (by decide)).trans (E2_of m c main_v15 (by decide)))

/-- They stay to the loop's end. -/
theorem E6_v15 : E6 m c (Proc.devRef .tc main_v15) = E1 m c (Proc.devRef .tc main_v15) :=
  (after_of_writes_sub condOps _ condOps_writes (by decide)).trans ((atK_keep m c main_v15 (by decide) 2048).trans (entry_v15 m c))

/-- When the loop has ended, the closing operations find the gate, the states and the parameters of the layer. -/
theorem found : Found (E6 m c) (par m c) (rows m c) where
  x b t k := (congrFun (E6_arg m c main_arg0 (by decide) (by decide) (by decide +kernel)) _).trans (launch_x m c b t k)
  gate b t j := (congrFun (E6_v15 m c) _).trans
    (v15_at (launchContents m c) (par m c) (rows m c) (launch_x m c) (fun _ => rfl) (fun _ _ => rfl) b t j)
  slots s b j := (congrFun (after_of_writes_sub condOps _ condOps_writes (r := main_v87_4) (by decide)) _).trans
    (slots_at (entry m c) 2048 (Nat.le_refl _) s s.isLt b j)
  wo k j := congrFun (E6_arg m c main_arg8 (by decide) (by decide) (by decide +kernel)) _
  gam2 k := congrFun (E6_arg m c main_arg9 (by decide) (by decide) (by decide +kernel)) _
  wgrow o k := congrFun (E6_arg m c main_arg10 (by decide) (by decide) (by decide +kernel)) _
  wsh k j := congrFun (E6_arg m c main_arg11 (by decide) (by decide) (by decide +kernel)) _

/-- The reference's result is the layer. -/
theorem result : (finalContents condOps preI bodyI postI 2048 m c (Proc.devRef .tc main_v125) : Vec Ideal S4x2048x1024 .f32)
    = layer (par m c) (rows m c) := by
  funext i
  obtain ⟨b, t, k, rfl⟩ : ∃ (b : Fin 4) (t : Fin 2048) (k : Fin 1024), i = ix3 b t k := ⟨i 0, i 1, i 2, eq_ix3 i⟩
  exact v125_at (found m c) b t k

end Cert.ReferenceIdeal.Hand
-- ==== Proof.Domain.lean ====
module

public import proofs.«01_k».proof.Proof.Gen.Pre_forget_base_below_inf
public import Idealize.ShloMosaic.Lib.ReduceAll
public import Idealize.ShloMosaic.Lib.Pointwise

@[expose] public section

noncomputable section

/-! # What the precondition says -/

namespace Cert.Domain

open Idealize.ShloMosaic Cert.Pre_forget_base_below_inf

/-- The float word of `+inf` reads as the top of the extended reals. -/
theorem ofBits_inf : Ideal.ofBits .f32 0x7F800000#32 = ⊤ := by
  show Ideal.ieee 8 23 (0x7F800000#32) = _
  simp [Ideal.ieee]

/-- The scalar shape has one index. -/
instance : Subsingleton S_.Idx := ⟨fun _ _ => funext fun a => a.elim0⟩

/-- No entry of `forget_base` is `+inf`. -/
theorem below (a0 : FVec Ideal S4x2048x1024 .f32) (a1 : FVec Ideal S1024 .f32) (a2 : FVec Ideal S3072x1024 .f32) (a3 : FVec Ideal S1536x1x4 .f32)
    (a4 : FVec Ideal S1536 .f32) (a5 : FVec Ideal S3072x1536 .f32) (a6 : FVec Ideal S3072 .f32) (a7 : FVec Ideal S1536 .f32)
    (a8 : FVec Ideal S1024x1536 .f32) (a9 : FVec Ideal S1024 .f32) (a10 : FVec Ideal S4096x1024 .f32) (a11 : FVec Ideal S1024x2048 .f32)
    (h : fn (F := Ideal) a0 a1 a2 a3 a4 a5 a6 a7 a8 a9 a10 a11 = fun _ => 1#1) (j : Fin 1536) : a7 (ix1 j) < (⊤ : EReal) := by
  have e := Host.reduce_andi_all _ _ _ _ _ (congrFun h (Shape.Idx.first (Facts.h_S_))) (ix1 j)
  have e' : Ideal.cmp .olt (a7 (ix1 j)) (Ideal.ofBits .f32 0x7F800000#32) = 1#1 := e
  rw [ofBits_inf] at e'
  by_contra hn
  rw [show Ideal.cmp .olt (a7 (ix1 j)) ⊤ = 0#1 from congrArg BitVec.ofBool (decide_eq_false hn)] at e'
  exact absurd e' (by decide)

end Cert.Domain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_forget_base_below_inf
public import proofs.«01_k».proof.Proof.Kernel.Run
public import proofs.«01_k».proof.Proof.KernelIdeal.Value
public import proofs.«01_k».proof.Proof.Reference.Value
public import proofs.«01_k».proof.Proof.Domain
public import Idealize.ShloMosaic.Adequacy
public import Idealize.ShloMosaic.Init

@[expose] public section

noncomputable section

namespace Cert.Proof

open Idealize.ShloMosaic Idealize.SL.Sem Cert.Kernel

/-- From memories that hold the same arguments both programs end with the layer of them. -/
theorem algebraic : Cert.algebraic_KernelIdeal_ReferenceIdeal_pre_forget_base_below_inf := by
  intro m g m' g' hpre harg
  have hf : ∀ c j, (Cert.KernelIdeal.Hand.par m c).fb j < ⊤ := fun c j => Cert.Domain.below _ _ _ _ _ _ _ _ _ _ _ _ (hpre c) j
  refine ⟨fun c => Cert.Spec.layer (Cert.KernelIdeal.Hand.par m c) (Cert.KernelIdeal.Hand.rows m c),
    θ_run_mono (Cert.KernelIdeal.Hand.run m g) fun r hr c => by
      obtain ⟨k0, k1, k2, k3, k4, k5, k6, k7, k8, k9, k10, k11, k⟩ := hr.1 c
      exact ⟨k.trans (Cert.KernelIdeal.Hand.result m g c (hf c)), k0, k1, k2, k3, k4, k5, k6, k7, k8, k9, k10, k11⟩,
    θ_run_mono (Cert.ReferenceIdeal.Hand.run m' g') fun r hr c => ⟨((hr.1 c).1).trans ?_, (hr.1 c).2⟩⟩
  obtain ⟨h0, h1, h2, h3, h4, h5, h6, h7, h8, h9, h10, h11⟩ := harg c
  refine (Cert.ReferenceIdeal.Hand.result m' c).trans ?_
  unfold Cert.ReferenceIdeal.Hand.par Cert.ReferenceIdeal.Hand.rows
  rw [h0, h1, h2, h3, h4, h5, h6, h7, h8, h9, h10, h11]

/-- All the claims: the facts of each program, the frames, the rewrite-free preservation and the equal results. -/
theorem claim : Cert.Claim := ⟨Cert.Kernel.Gen.facts, Cert.KernelIdeal.Gen.facts, Cert.ReferenceIdeal.Gen.facts,
  Cert.Pre_forget_base_below_inf.Gen.facts,
  fun m g _ => Cert.Kernel.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  trivial,
  algebraic⟩

end Cert.Proof

end
